-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_on_grid_or_flushed [hPre_on_grid_or_flushed : Cert.Pre_on_grid_or_flushed.Facts] (m : (ℓ : Loc Cert.KernelIdeal.nD Cert.KernelIdeal.τ Cert.KernelIdeal.sig) → Buf (Elt Ideal) ℓ) : Prop :=
  ∀ c : Dev Cert.KernelIdeal.nD,
    (Cert.Pre_on_grid_or_flushed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_grid_or_flushed [hPre_on_grid_or_flushed : Cert.Pre_on_grid_or_flushed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_grid_or_flushed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_in_range_or_flushed [hPre_in_range_or_flushed : Cert.Pre_in_range_or_flushed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_or_flushed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_in_range_or_flushed [hPre_in_range_or_flushed : Cert.Pre_in_range_or_flushed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range_or_flushed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_on_grid_or_flushed [hKernelIdeal : Cert.KernelIdeal.Facts] [hPre_on_grid_or_flushed : Cert.Pre_on_grid_or_flushed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_grid_or_flushed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_on_grid_or_flushed [hReferenceIdeal : Cert.ReferenceIdeal.Facts] [hPre_on_grid_or_flushed : Cert.Pre_on_grid_or_flushed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_grid_or_flushed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_or_flushed [hReferenceIdeal : Cert.ReferenceIdeal.Facts] [hPre_in_range_or_flushed : Cert.Pre_in_range_or_flushed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_or_flushed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_in_range_or_flushed [hKernel2Ideal : Cert.Kernel2Ideal.Facts] [hPre_in_range_or_flushed : Cert.Pre_in_range_or_flushed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_in_range_or_flushed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def preserves_Kernel_KernelIdeal : Prop :=
  IdealRules.named_const.Statement Cert.KernelIdeal.κ "neg_big" .f32 0xFF61B1E6#32 ⊥

def algebraic_KernelIdeal_ReferenceIdeal_pre_on_grid_or_flushed [hKernelIdeal : Cert.KernelIdeal.Facts] [hReferenceIdeal : Cert.ReferenceIdeal.Facts] [hPre_on_grid_or_flushed : Cert.Pre_on_grid_or_flushed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_on_grid_or_flushed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "neg_big" .f32 0xFF61B1E6#32 ⊥

def algebraic_Kernel2Ideal_ReferenceIdeal_pre_in_range_or_flushed [hKernel2Ideal : Cert.Kernel2Ideal.Facts] [hReferenceIdeal : Cert.ReferenceIdeal.Facts] [hPre_in_range_or_flushed : Cert.Pre_in_range_or_flushed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_Kernel2Ideal_in_range_or_flushed m →
    (∀ c : Dev Cert.Kernel2Ideal.nD,
      m' ((c.tc : Thread Cert.ReferenceIdeal.nD Cert.ReferenceIdeal.τ).loc Cert.ReferenceIdeal.main_arg0) = m ((c.tc : Thread Cert.Kernel2Ideal.nD Cert.Kernel2Ideal.τ).loc Cert.Kernel2Ideal.main_arg0)
      ∧ m' ((c.tc : Thread Cert.ReferenceIdeal.nD Cert.ReferenceIdeal.τ).loc Cert.ReferenceIdeal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hPre_on_grid_or_flushed : Cert.Pre_on_grid_or_flushed.Facts) (hPre_in_range_or_flushed : Cert.Pre_in_range_or_flushed.Facts),
    quiescent_Kernel (hKernel := hKernel)
    ∧ quiescent_KernelIdeal (hKernelIdeal := hKernelIdeal)
    ∧ quiescent_KernelIdeal_pre_on_grid_or_flushed (hKernelIdeal := hKernelIdeal) (hPre_on_grid_or_flushed := hPre_on_grid_or_flushed)
    ∧ quiescent_ReferenceIdeal (hReferenceIdeal := hReferenceIdeal)
    ∧ quiescent_ReferenceIdeal_pre_on_grid_or_flushed (hReferenceIdeal := hReferenceIdeal) (hPre_on_grid_or_flushed := hPre_on_grid_or_flushed)
    ∧ quiescent_ReferenceIdeal_pre_in_range_or_flushed (hReferenceIdeal := hReferenceIdeal) (hPre_in_range_or_flushed := hPre_in_range_or_flushed)
    ∧ quiescent_Kernel2 (hKernel2 := hKernel2)
    ∧ quiescent_Kernel2Ideal (hKernel2Ideal := hKernel2Ideal)
    ∧ quiescent_Kernel2Ideal_pre_in_range_or_flushed (hKernel2Ideal := hKernel2Ideal) (hPre_in_range_or_flushed := hPre_in_range_or_flushed)
    ∧ preserves_Kernel_KernelIdeal
    ∧ algebraic_KernelIdeal_ReferenceIdeal_pre_on_grid_or_flushed (hKernelIdeal := hKernelIdeal) (hReferenceIdeal := hReferenceIdeal) (hPre_on_grid_or_flushed := hPre_on_grid_or_flushed)
    ∧ preserves_Kernel2_Kernel2Ideal
    ∧ algebraic_Kernel2Ideal_ReferenceIdeal_pre_in_range_or_flushed (hKernel2Ideal := hKernel2Ideal) (hReferenceIdeal := hReferenceIdeal) (hPre_in_range_or_flushed := hPre_in_range_or_flushed)
-- ==== Pre_in_range_or_flushed.lean ====
abbrev S64x12x197x197 : Shape := ⟨4, ![64, 12, 197, 197]⟩
abbrev S1 : Shape := ⟨1, ![1]⟩
abbrev S1x1x1x1 : Shape := ⟨4, ![1, 1, 1, 1]⟩
abbrev S_ : Shape := ⟨0, ![]⟩

class Facts : Prop where
  bcast_S1_S1x1x1x1_3 : S1.BroadcastsInDim S1x1x1x1 (![3] : Fin 1 → Fin S1x1x1x1.rank)
  bcast_S1x1x1x1_S64x12x197x197_0_1_2_3 : S1x1x1x1.BroadcastsInDim S64x12x197x197 (![0, 1, 2, 3] : Fin 4 → Fin S64x12x197x197.rank)
  reducesTo_S64x12x197x197_S_d0_1_2_3 : S64x12x197x197.ReducesTo [0, 1, 2, 3] S_
  h_S_ : 0 < S_.numel
  bcast_S_S1 : S_.BroadcastsInDim S1 (![] : Fin 0 → Fin S1.rank)
  bcast_S_S64x12x197x197 : S_.BroadcastsInDim S64x12x197x197 (![] : Fin 0 → Fin S64x12x197x197.rank)

variable [Facts]

def fn_round {F : FTy → Type} [FloatOps F] (arg0 : FVec F S1 .f32) : FVec F S1 .f32 :=
  let v0 : FVec F S1 .f32 := Host.roundeven arg0
  v0

def fn_part2 {F : FTy → Type} [FloatOps F] (main_arg1 : FVec F S1 .f32) (main_v3 : FVec F S_ .f32) (main_v6 : FVec F S1 .f32) (main_v22 : IVec S64x12x197x197 1) (main_v35 : FVec F S1 .f32) : IVec S64x12x197x197 1 :=
  let main_v36 : FVec F S1 .f32 := mulf main_v35 main_v6
  let main_cst_11 : FVec F S_ .f32 := constant S_ .f32 0x4E800000#32
  let main_v37 : FVec F S1 .f32 := broadcastInDim S1 ![] bcast_S_S1 main_cst_11
  let main_v38 : IVec S1 1 := cmpf .ogt main_v36 main_v37
  let main_cst_12 : FVec F S_ .f32 := constant S_ .f32 0x00000000#32
  let main_v39 : FVec F S1 .f32 := broadcastInDim S1 ![] bcast_S_S1 main_cst_12
  let main_v40 : IVec S1 1 := cmpf .oeq main_arg1 main_v39
  let main_cst_13 : FVec F S_ .f32 := constant S_ .f32 0x00000000#32
  let main_v41 : FVec F S1 .f32 := broadcastInDim S1 ![] bcast_S_S1 main_cst_13
  let main_v42 : IVec S1 1 := cmpf .oeq main_v6 main_v41
  let main_v43 : IVec S1 1 := ori main_v40 main_v42
  let main_v44 : FVec F S_ .f32 := Host.absf main_v3
  let main_cst_14 : FVec F S_ .f32 := constant S_ .f32 0x7F800000#32
  let main_v45 : IVec S_ 1 := cmpf .olt main_v44 main_cst_14
  let main_v46 : IVec S1x1x1x1 1 := broadcastInDim S1x1x1x1 ![3] bcast_S1_S1x1x1x1_3 main_v38
  let main_v47 : IVec S64x12x197x197 1 := broadcastInDim S64x12x197x197 ![0, 1, 2, 3] bcast_S1x1x1x1_S64x12x197x197_0_1_2_3 main_v46
  let main_v48 : IVec S64x12x197x197 1 := ori main_v22 main_v47
  let main_v49 : IVec S64x12x197x197 1 := broadcastInDim S64x12x197x197 ![] bcast_S_S64x12x197x197 main_v45
  let main_v50 : IVec S64x12x197x197 1 := andi main_v49 main_v48
  let main_v51 : IVec S1x1x1x1 1 := broadcastInDim S1x1x1x1 ![3] bcast_S1_S1x1x1x1_3 main_v43
  let main_v52 : IVec S64x12x197x197 1 := broadcastInDim S64x12x197x197 ![0, 1, 2, 3] bcast_S1x1x1x1_S64x12x197x197_0_1_2_3 main_v51
  let main_v53 : IVec S64x12x197x197 1 := ori main_v52 main_v50
  main_v53

def fn_part1 {F : FTy → Type} [FloatOps F] (main_arg1 : FVec F S1 .f32) (main_v3 : FVec F S_ .f32) (main_v6 : FVec F S1 .f32) (main_v13 : FVec F S64x12x197x197 .f32) (main_v17 : FVec F S64x12x197x197 .f32) (main_cst_4 : FVec F S_ .f32) : IVec S64x12x197x197 1 :=
  let main_v18 : FVec F S64x12x197x197 .f32 := broadcastInDim S64x12x197x197 ![] bcast_S_S64x12x197x197 main_cst_4
  let main_v19 : IVec S64x12x197x197 1 := cmpf .oge main_v17 main_v18
  let main_cst_5 : FVec F S_ .f32 := constant S_ .f32 0x7F800000#32
  let main_v20 : FVec F S64x12x197x197 .f32 := broadcastInDim S64x12x197x197 ![] bcast_S_S64x12x197x197 main_cst_5
  let main_v21 : IVec S64x12x197x197 1 := cmpf .olt main_v17 main_v20
  let main_v22 : IVec S64x12x197x197 1 := andi main_v19 main_v21
  let main_v23 : FVec F S64x12x197x197 .f32 := Host.floor main_v13
  let main_v24 : FVec F S64x12x197x197 .f32 := subf main_v13 main_v23
  let main_cst_6 : FVec F S_ .f32 := constant S_ .f32 0x3F000000#32
  let main_v25 : FVec F S64x12x197x197 .f32 := broadcastInDim S64x12x197x197 ![] bcast_S_S64x12x197x197 main_cst_6
  let main_v26 : FVec F S64x12x197x197 .f32 := mulf main_v24 main_v25
  let main_cst_7 : FVec F S_ .f32 := constant S_ .f32 0x3F800000#32
  let main_v27 : FVec F S64x12x197x197 .f32 := broadcastInDim S64x12x197x197 ![] bcast_S_S64x12x197x197 main_cst_7
  let main_v28 : FVec F S64x12x197x197 .f32 := subf main_v27 main_v26
  let main_cst_8 : FVec F S_ .f32 := constant S_ .f32 0x41A00000#32
  let main_v29 : FVec F S64x12x197x197 .f32 := broadcastInDim S64x12x197x197 ![] bcast_S_S64x12x197x197 main_cst_8
  let main_v30 : FVec F S64x12x197x197 .f32 := subf main_v29 main_v23
  let main_cst_9 : FVec F S_ .f32 := constant S_ .f32 0x40000000#32
  let main_v31 : FVec F S64x12x197x197 .f32 := broadcastInDim S64x12x197x197 ![] bcast_S_S64x12x197x197 main_cst_9
  let main_v32 : FVec F S64x12x197x197 .f32 := Host.powf main_v31 main_v30
  let main_v33 : FVec F S64x12x197x197 .f32 := mulf main_v28 main_v32
  let main_cst_10 : FVec F S_ .f32 := constant S_ .f32 0x00000000#32
  let main_v34 : FVec F S_ .f32 := (fun x v => Host.reduceAdd x v reducesTo_S64x12x197x197_S_d0_1_2_3 h_S_) main_v33 main_cst_10
  let main_v35 : FVec F S1 .f32 := broadcastInDim S1 ![] bcast_S_S1 main_v34
  fn_part2 (F := F) main_arg1 main_v3 main_v6 main_v22 main_v35

def fn {F : FTy → Type} [FloatOps F] (main_arg0 : FVec F S64x12x197x197 .f32) (main_arg1 : FVec F S1 .f32) : IVec S64x12x197x197 1 :=
  let main_v0 : FVec F S1x1x1x1 .f32 := broadcastInDim S1x1x1x1 ![3] bcast_S1_S1x1x1x1_3 main_arg1
  let main_v1 : FVec F S64x12x197x197 .f32 := broadcastInDim S64x12x197x197 ![0, 1, 2, 3] bcast_S1x1x1x1_S64x12x197x197_0_1_2_3 main_v0
  let main_v2 : FVec F S64x12x197x197 .f32 := Host.divf main_arg0 main_v1
  let main_cst : FVec F S_ .f32 := constant S_ .f32 0xFF800000#32
  let main_v3 : FVec F S_ .f32 := (fun x v => Host.reduce FloatOps.maximumf x v reducesTo_S64x12x197x197_S_d0_1_2_3 h_S_) main_v2 main_cst
  let main_cst_0 : FVec F S_ .f32 := constant S_ .f32 0x3F800000#32
  let main_v4 : FVec F S1 .f32 := broadcastInDim S1 ![] bcast_S_S1 main_cst_0
  let main_v5 : FVec F S1 .f32 := Host.divf main_v4 main_arg1
  let main_v6 : FVec F S1 .f32 := fn_round (F := F) main_v5
  let main_v7 : FVec F S64x12x197x197 .f32 := broadcastInDim S64x12x197x197 ![] bcast_S_S64x12x197x197 main_v3
  let main_v8 : FVec F S64x12x197x197 .f32 := subf main_v7 main_v2
  let main_cst_1 : FVec F S_ .f32 := constant S_ .f32 0x3FB80000#32
  let main_v9 : FVec F S64x12x197x197 .f32 := broadcastInDim S64x12x197x197 ![] bcast_S_S64x12x197x197 main_cst_1
  let main_v10 : FVec F S64x12x197x197 .f32 := mulf main_v8 main_v9
  let main_v11 : FVec F S1x1x1x1 .f32 := broadcastInDim S1x1x1x1 ![3] bcast_S1_S1x1x1x1_3 main_v6
  let main_v12 : FVec F S64x12x197x197 .f32 := broadcastInDim S64x12x197x197 ![0, 1, 2, 3] bcast_S1x1x1x1_S64x12x197x197_0_1_2_3 main_v11
  let main_v13 : FVec F S64x12x197x197 .f32 := Host.divf main_v10 main_v12
  let main_cst_2 : FVec F S_ .f32 := constant S_ .f32 0x43130000#32
  let main_v14 : FVec F S64x12x197x197 .f32 := broadcastInDim S64x12x197x197 ![] bcast_S_S64x12x197x197 main_cst_2
  let main_v15 : FVec F S64x12x197x197 .f32 := subf main_v14 main_v13
  let main_cst_3 : FVec F S_ .f32 := constant S_ .f32 0x4B000000#32
  let main_v16 : FVec F S64x12x197x197 .f32 := broadcastInDim S64x12x197x197 ![] bcast_S_S64x12x197x197 main_cst_3
  let main_v17 : FVec F S64x12x197x197 .f32 := mulf main_v15 main_v16
  let main_cst_4 : FVec F S_ .f32 := constant S_ .f32 0x4C600000#32
  fn_part1 (F := F) main_arg1 main_v3 main_v6 main_v13 main_v17 main_cst_4
-- ==== Pre_on_grid_or_flushed.lean ====
abbrev S64x12x197x197 : Shape := ⟨4, ![64, 12, 197, 197]⟩
abbrev S1 : Shape := ⟨1, ![1]⟩
abbrev S1x1x1x1 : Shape := ⟨4, ![1, 1, 1, 1]⟩
abbrev S_ : Shape := ⟨0, ![]⟩

class Facts : Prop where
  bcast_S1_S1x1x1x1_3 : S1.BroadcastsInDim S1x1x1x1 (![3] : Fin 1 → Fin S1x1x1x1.rank)
  bcast_S1x1x1x1_S64x12x197x197_0_1_2_3 : S1x1x1x1.BroadcastsInDim S64x12x197x197 (![0, 1, 2, 3] : Fin 4 → Fin S64x12x197x197.rank)
  reducesTo_S64x12x197x197_S_d0_1_2_3 : S64x12x197x197.ReducesTo [0, 1, 2, 3] S_
  h_S_ : 0 < S_.numel
  bcast_S_S1 : S_.BroadcastsInDim S1 (![] : Fin 0 → Fin S1.rank)
  bcast_S_S64x12x197x197 : S_.BroadcastsInDim S64x12x197x197 (![] : Fin 0 → Fin S64x12x197x197.rank)

variable [Facts]

def fn_round {F : FTy → Type} [FloatOps F] (arg0 : FVec F S1 .f32) : FVec F S1 .f32 :=
  let v0 : FVec F S1 .f32 := Host.roundeven arg0
  v0

def fn_part3 {F : FTy → Type} [FloatOps F] (main_v53 : IVec S64x12x197x197 1) (main_v55 : IVec S64x12x197x197 1) : IVec S64x12x197x197 1 :=
  let main_v56 : IVec S64x12x197x197 1 := ori main_v55 main_v53
  main_v56

def fn_part2 {F : FTy → Type} [FloatOps F] (main_arg1 : FVec F S1 .f32) (main_v3 : FVec F S_ .f32) (main_v6 : FVec F S1 .f32) (main_v25 : IVec S64x12x197x197 1) (main_v36 : FVec F S64x12x197x197 .f32) : IVec S64x12x197x197 1 :=
  let main_cst_10 : FVec F S_ .f32 := constant S_ .f32 0x00000000#32
  let main_v37 : FVec F S_ .f32 := (fun x v => Host.reduceAdd x v reducesTo_S64x12x197x197_S_d0_1_2_3 h_S_) main_v36 main_cst_10
  let main_v38 : FVec F S1 .f32 := broadcastInDim S1 ![] bcast_S_S1 main_v37
  let main_v39 : FVec F S1 .f32 := mulf main_v38 main_v6
  let main_cst_11 : FVec F S_ .f32 := constant S_ .f32 0x4E800001#32
  let main_v40 : FVec F S1 .f32 := broadcastInDim S1 ![] bcast_S_S1 main_cst_11
  let main_v41 : IVec S1 1 := cmpf .ogt main_v39 main_v40
  let main_cst_12 : FVec F S_ .f32 := constant S_ .f32 0x00000000#32
  let main_v42 : FVec F S1 .f32 := broadcastInDim S1 ![] bcast_S_S1 main_cst_12
  let main_v43 : IVec S1 1 := cmpf .oeq main_arg1 main_v42
  let main_cst_13 : FVec F S_ .f32 := constant S_ .f32 0x00000000#32
  let main_v44 : FVec F S1 .f32 := broadcastInDim S1 ![] bcast_S_S1 main_cst_13
  let main_v45 : IVec S1 1 := cmpf .oeq main_v6 main_v44
  let main_v46 : IVec S1 1 := ori main_v43 main_v45
  let main_v47 : FVec F S_ .f32 := Host.absf main_v3
  let main_cst_14 : FVec F S_ .f32 := constant S_ .f32 0x7F800000#32
  let main_v48 : IVec S_ 1 := cmpf .olt main_v47 main_cst_14
  let main_v49 : IVec S1x1x1x1 1 := broadcastInDim S1x1x1x1 ![3] bcast_S1_S1x1x1x1_3 main_v41
  let main_v50 : IVec S64x12x197x197 1 := broadcastInDim S64x12x197x197 ![0, 1, 2, 3] bcast_S1x1x1x1_S64x12x197x197_0_1_2_3 main_v49
  let main_v51 : IVec S64x12x197x197 1 := ori main_v25 main_v50
  let main_v52 : IVec S64x12x197x197 1 := broadcastInDim S64x12x197x197 ![] bcast_S_S64x12x197x197 main_v48
  let main_v53 : IVec S64x12x197x197 1 := andi main_v52 main_v51
  let main_v54 : IVec S1x1x1x1 1 := broadcastInDim S1x1x1x1 ![3] bcast_S1_S1x1x1x1_3 main_v46
  let main_v55 : IVec S64x12x197x197 1 := broadcastInDim S64x12x197x197 ![0, 1, 2, 3] bcast_S1x1x1x1_S64x12x197x197_0_1_2_3 main_v54
  fn_part3 (F := F) main_v53 main_v55

def fn_part1 {F : FTy → Type} [FloatOps F] (main_arg1 : FVec F S1 .f32) (main_v3 : FVec F S_ .f32) (main_v6 : FVec F S1 .f32) (main_v13 : FVec F S64x12x197x197 .f32) (main_v17 : FVec F S64x12x197x197 .f32) (main_v18 : FVec F S64x12x197x197 .f32) : IVec S64x12x197x197 1 :=
  let main_v19 : IVec S64x12x197x197 1 := cmpf .oeq main_v18 main_v17
  let main_cst_4 : FVec F S_ .f32 := constant S_ .f32 0x4C600000#32
  let main_v20 : FVec F S64x12x197x197 .f32 := broadcastInDim S64x12x197x197 ![] bcast_S_S64x12x197x197 main_cst_4
  let main_v21 : IVec S64x12x197x197 1 := cmpf .oge main_v17 main_v20
  let main_v22 : IVec S64x12x197x197 1 := andi main_v19 main_v21
  let main_cst_5 : FVec F S_ .f32 := constant S_ .f32 0x4EFF0000#32
  let main_v23 : FVec F S64x12x197x197 .f32 := broadcastInDim S64x12x197x197 ![] bcast_S_S64x12x197x197 main_cst_5
  let main_v24 : IVec S64x12x197x197 1 := cmpf .olt main_v17 main_v23
  let main_v25 : IVec S64x12x197x197 1 := andi main_v22 main_v24
  let main_v26 : FVec F S64x12x197x197 .f32 := Host.floor main_v13
  let main_v27 : FVec F S64x12x197x197 .f32 := subf main_v13 main_v26
  let main_cst_6 : FVec F S_ .f32 := constant S_ .f32 0x3F000000#32
  let main_v28 : FVec F S64x12x197x197 .f32 := broadcastInDim S64x12x197x197 ![] bcast_S_S64x12x197x197 main_cst_6
  let main_v29 : FVec F S64x12x197x197 .f32 := mulf main_v27 main_v28
  let main_cst_7 : FVec F S_ .f32 := constant S_ .f32 0x3F800000#32
  let main_v30 : FVec F S64x12x197x197 .f32 := broadcastInDim S64x12x197x197 ![] bcast_S_S64x12x197x197 main_cst_7
  let main_v31 : FVec F S64x12x197x197 .f32 := subf main_v30 main_v29
  let main_cst_8 : FVec F S_ .f32 := constant S_ .f32 0x41A00000#32
  let main_v32 : FVec F S64x12x197x197 .f32 := broadcastInDim S64x12x197x197 ![] bcast_S_S64x12x197x197 main_cst_8
  let main_v33 : FVec F S64x12x197x197 .f32 := subf main_v32 main_v26
  let main_cst_9 : FVec F S_ .f32 := constant S_ .f32 0x40000000#32
  let main_v34 : FVec F S64x12x197x197 .f32 := broadcastInDim S64x12x197x197 ![] bcast_S_S64x12x197x197 main_cst_9
  let main_v35 : FVec F S64x12x197x197 .f32 := Host.powf main_v34 main_v33
  let main_v36 : FVec F S64x12x197x197 .f32 := mulf main_v31 main_v35
  fn_part2 (F := F) main_arg1 main_v3 main_v6 main_v25 main_v36

def fn {F : FTy → Type} [FloatOps F] (main_arg0 : FVec F S64x12x197x197 .f32) (main_arg1 : FVec F S1 .f32) : IVec S64x12x197x197 1 :=
  let main_v0 : FVec F S1x1x1x1 .f32 := broadcastInDim S1x1x1x1 ![3] bcast_S1_S1x1x1x1_3 main_arg1
  let main_v1 : FVec F S64x12x197x197 .f32 := broadcastInDim S64x12x197x197 ![0, 1, 2, 3] bcast_S1x1x1x1_S64x12x197x197_0_1_2_3 main_v0
  let main_v2 : FVec F S64x12x197x197 .f32 := Host.divf main_arg0 main_v1
  let main_cst : FVec F S_ .f32 := constant S_ .f32 0xFF800000#32
  let main_v3 : FVec F S_ .f32 := (fun x v => Host.reduce FloatOps.maximumf x v reducesTo_S64x12x197x197_S_d0_1_2_3 h_S_) main_v2 main_cst
  let main_cst_0 : FVec F S_ .f32 := constant S_ .f32 0x3F800000#32
  let main_v4 : FVec F S1 .f32 := broadcastInDim S1 ![] bcast_S_S1 main_cst_0
  let main_v5 : FVec F S1 .f32 := Host.divf main_v4 main_arg1
  let main_v6 : FVec F S1 .f32 := fn_round (F := F) main_v5
  let main_v7 : FVec F S64x12x197x197 .f32 := broadcastInDim S64x12x197x197 ![] bcast_S_S64x12x197x197 main_v3
  let main_v8 : FVec F S64x12x197x197 .f32 := subf main_v7 main_v2
  let main_cst_1 : FVec F S_ .f32 := constant S_ .f32 0x3FB80000#32
  let main_v9 : FVec F S64x12x197x197 .f32 := broadcastInDim S64x12x197x197 ![] bcast_S_S64x12x197x197 main_cst_1
  let main_v10 : FVec F S64x12x197x197 .f32 := mulf main_v8 main_v9
  let main_v11 : FVec F S1x1x1x1 .f32 := broadcastInDim S1x1x1x1 ![3] bcast_S1_S1x1x1x1_3 main_v6
  let main_v12 : FVec F S64x12x197x197 .f32 := broadcastInDim S64x12x197x197 ![0, 1, 2, 3] bcast_S1x1x1x1_S64x12x197x197_0_1_2_3 main_v11
  let main_v13 : FVec F S64x12x197x197 .f32 := Host.divf main_v10 main_v12
  let main_cst_2 : FVec F S_ .f32 := constant S_ .f32 0x43130000#32
  let main_v14 : FVec F S64x12x197x197 .f32 := broadcastInDim S64x12x197x197 ![] bcast_S_S64x12x197x197 main_cst_2
  let main_v15 : FVec F S64x12x197x197 .f32 := subf main_v14 main_v13
  let main_cst_3 : FVec F S_ .f32 := constant S_ .f32 0x4B000000#32
  let main_v16 : FVec F S64x12x197x197 .f32 := broadcastInDim S64x12x197x197 ![] bcast_S_S64x12x197x197 main_cst_3
  let main_v17 : FVec F S64x12x197x197 .f32 := mulf main_v15 main_v16
  let main_v18 : FVec F S64x12x197x197 .f32 := Host.floor main_v17
  fn_part1 (F := F) main_arg1 main_v3 main_v6 main_v13 main_v17 main_v18
-- ==== Kernel.lean ====
abbrev S64x12x197x197 : Shape := ⟨4, ![64, 12, 197, 197]⟩
abbrev S1 : Shape := ⟨1, ![1]⟩
abbrev S12x197x64x197 : Shape := ⟨4, ![12, 197, 64, 197]⟩
abbrev S_ : Shape := ⟨0, ![]⟩
abbrev S5 : Shape := ⟨1, ![5]⟩
abbrev S1x197x64x197 : Shape := ⟨4, ![1, 197, 64, 197]⟩
abbrev S8x128 : Shape := ⟨2, ![8, 128]⟩
abbrev S1x1x197x64x197 : Shape := ⟨5, ![1, 1, 197, 64, 197]⟩
abbrev S1x1x1x1x1 : Shape := ⟨5, ![1, 1, 1, 1, 1]⟩
abbrev S1x1 : Shape := ⟨2, ![1, 1]⟩

abbrev nBuf : Space → Nat
  | .hbm => 20
  | .vmem => 6
  | .smem => 1
  | _ => 0

abbrev bufTy : (tb : Table) → Fin (tcTables nBuf tb) → BufTy
  | .hbm, ⟨0, _⟩ => ⟨S64x12x197x197, .f32⟩
  | .hbm, ⟨1, _⟩ => ⟨S1, .f32⟩
  | .hbm, ⟨2, _⟩ => ⟨S12x197x64x197, .f32⟩
  | .hbm, ⟨3, _⟩ => ⟨S_, .f32⟩
  | .hbm, ⟨4, _⟩ => ⟨S1, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S5, .f32⟩
  | .hbm, ⟨18, _⟩ => ⟨S12x197x64x197, .f32⟩
  | .hbm, ⟨19, _⟩ => ⟨S64x12x197x197, .f32⟩
  | .local _ .vmem, ⟨0, _⟩ => ⟨S1x197x64x197, .f32⟩
  | .local _ .vmem, ⟨1, _⟩ => ⟨S1x197x64x197, .f32⟩
  | .local _ .vmem, ⟨2, _⟩ => ⟨S1x197x64x197, .f32⟩
  | .local _ .vmem, ⟨3, _⟩ => ⟨S1x197x64x197, .f32⟩
  | .local _ .vmem, ⟨4, _⟩ => ⟨S8x128, .f32⟩
  | .local _ .vmem, ⟨5, _⟩ => ⟨S8x128, .f32⟩
  | .local _ .smem, ⟨0, _⟩ => ⟨S5, .f32⟩
  | _, _ => ⟨S64x12x197x197, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 12, 1], ![false, false, false]⟩

def k0_cond3 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_4 : BitVec 32 := 0#32
  let v11 : BitVec 1 := Scalar.cmpi .ne v10 c0_i32_4
  v11

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg0 c2_i32
  let c0_i32 : BitVec 32 := 0#32
  let v1 : BitVec 32 := Scalar.select v0 arg1 c0_i32
  let c2_i32_0 : BitVec 32 := 2#32
  let v2 : BitVec 1 := Scalar.cmpi .eq arg0 c2_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, c0_i32_2.toNat, v3.toNat, c0_i32_3.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x197x64x197 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x197x64x197 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== KernelIdeal.lean ====
variable {F : FTy → Type} [FloatOps F] [Named F]
def κ : String → Option EReal := fun
  | "neg_big" => some ⊥
  | _ => none
-- ==== ReferenceIdeal.lean ====
abbrev S64x12x197x197 : Shape := ⟨4, ![64, 12, 197, 197]⟩
abbrev S1 : Shape := ⟨1, ![1]⟩
abbrev S1x1x1x1 : Shape := ⟨4, ![1, 1, 1, 1]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S64x12x197x197, .f32⟩
  | .hbm, ⟨1, _⟩ => ⟨S1, .f32⟩
  | .hbm, ⟨2, _⟩ => ⟨S1x1x1x1, .f32⟩
  | .hbm, ⟨3, _⟩ => ⟨S64x12x197x197, .f32⟩
  | .hbm, ⟨4, _⟩ => ⟨S64x12x197x197, .f32⟩
  | .hbm, ⟨5, _⟩ => ⟨S_, .f32⟩
  | .hbm, ⟨6, _⟩ => ⟨S_, .f32⟩
  | .hbm, ⟨7, _⟩ => ⟨S64x12x197x197, .f32⟩
  | .hbm, ⟨8, _⟩ => ⟨S64x12x197x197, .f32⟩
  | .hbm, ⟨9, _⟩ => ⟨S_, .f32⟩
  | .hbm, ⟨10, _⟩ => ⟨S64x12x197x197, .f32⟩
  | .hbm, ⟨11, _⟩ => ⟨S64x12x197x197, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1x1x1x1, .f32⟩
  | .hbm, ⟨18, _⟩ => ⟨S64x12x197x197, .f32⟩
  | .hbm, ⟨19, _⟩ => ⟨S64x12x197x197, .f32⟩
  | .hbm, ⟨20, _⟩ => ⟨S64x12x197x197, .f32⟩
  | .hbm, ⟨21, _⟩ => ⟨S1x1x1x1, .f32⟩
  | .hbm, ⟨22, _⟩ => ⟨S64x12x197x197, .f32⟩
  | .hbm, ⟨23, _⟩ => ⟨S64x12x197x197, .f32⟩
  | .hbm, ⟨24, _⟩ => ⟨S64x12x197x197, .f32⟩
  | .hbm, ⟨25, _⟩ => ⟨S64x12x197x197, .f32⟩
  | .hbm, ⟨26, _⟩ => ⟨S64x12x197x197, .f32⟩
  | .hbm, ⟨27, _⟩ => ⟨S_, .f32⟩
  | .hbm, ⟨28, _⟩ => ⟨S64x12x197x197, .f32⟩
  | .hbm, ⟨29, _⟩ => ⟨S64x12x197x197, .f32⟩
  | .hbm, ⟨30, _⟩ => ⟨S1x1x1x1, .f32⟩
  | .hbm, ⟨31, _⟩ => ⟨S64x12x197x197, .f32⟩
  | .hbm, ⟨32, _⟩ => ⟨S64x12x197x197, .f32⟩
  | .hbm, ⟨33, _⟩ => ⟨S_, .f32⟩
  | .hbm, ⟨34, _⟩ => ⟨S64x12x197x197, .f32⟩
  | .hbm, ⟨35, _⟩ => ⟨S64x12x197x197, .f32⟩
  | .hbm, ⟨36, _⟩ => ⟨S_, .f32⟩
  | .hbm, ⟨37, _⟩ => ⟨S64x12x197x197, .f32⟩
  | .hbm, ⟨38, _⟩ => ⟨S64x12x197x197, .f32⟩
  | .hbm, ⟨39, _⟩ => ⟨S64x12x197x197, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S64x12x197x197, .f32⟩
  | .hbm, ⟨46, _⟩ => ⟨S64x12x197x197, .f32⟩
  | .hbm, ⟨47, _⟩ => ⟨S_, .f32⟩
  | .hbm, ⟨48, _⟩ => ⟨S64x12x197x197, .f32⟩
  | .hbm, ⟨49, _⟩ => ⟨S64x12x197x197, .f32⟩
  | .hbm, ⟨50, _⟩ => ⟨S_, .f32⟩
  | .hbm, ⟨51, _⟩ => ⟨S64x12x197x197, .f32⟩
  | .hbm, ⟨52, _⟩ => ⟨S64x12x197x197, .f32⟩
  | _, _ => ⟨S64x12x197x197, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel2.lean ====
abbrev S64x12x197x197 : Shape := ⟨4, ![64, 12, 197, 197]⟩
abbrev S1 : Shape := ⟨1, ![1]⟩
abbrev S12x197x64x197 : Shape := ⟨4, ![12, 197, 64, 197]⟩
abbrev S_ : Shape := ⟨0, ![]⟩
abbrev S5 : Shape := ⟨1, ![5]⟩
abbrev S1x197x64x197 : Shape := ⟨4, ![1, 197, 64, 197]⟩
abbrev S8x128 : Shape := ⟨2, ![8, 128]⟩
abbrev S1x1x197x64x197 : Shape := ⟨5, ![1, 1, 197, 64, 197]⟩
abbrev S1x1x1x1x1 : Shape := ⟨5, ![1, 1, 1, 1, 1]⟩
abbrev S1x1 : Shape := ⟨2, ![1, 1]⟩

abbrev nBuf : Space → Nat
  | .hbm => 20
  | .vmem => 6
  | .smem => 1
  | _ => 0

abbrev bufTy : (tb : Table) → Fin (tcTables nBuf tb) → BufTy
  | .hbm, ⟨0, _⟩ => ⟨S64x12x197x197, .f32⟩
  | .hbm, ⟨1, _⟩ => ⟨S1, .f32⟩
  | .hbm, ⟨2, _⟩ => ⟨S12x197x64x197, .f32⟩
  | .hbm, ⟨3, _⟩ => ⟨S_, .f32⟩
  | .hbm, ⟨4, _⟩ => ⟨S1, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S5, .f32⟩
  | .hbm, ⟨18, _⟩ => ⟨S12x197x64x197, .f32⟩
  | .hbm, ⟨19, _⟩ => ⟨S64x12x197x197, .f32⟩
  | .local _ .vmem, ⟨0, _⟩ => ⟨S1x197x64x197, .f32⟩
  | .local _ .vmem, ⟨1, _⟩ => ⟨S1x197x64x197, .f32⟩
  | .local _ .vmem, ⟨2, _⟩ => ⟨S1x197x64x197, .f32⟩
  | .local _ .vmem, ⟨3, _⟩ => ⟨S1x197x64x197, .f32⟩
  | .local _ .vmem, ⟨4, _⟩ => ⟨S8x128, .f32⟩
  | .local _ .vmem, ⟨5, _⟩ => ⟨S8x128, .f32⟩
  | .local _ .smem, ⟨0, _⟩ => ⟨S5, .f32⟩
  | _, _ => ⟨S64x12x197x197, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 12, 1], ![false, false, false]⟩

def k0_cond3 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_4 : BitVec 32 := 0#32
  let v11 : BitVec 1 := Scalar.cmpi .ne v10 c0_i32_4
  v11

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg0 c2_i32
  let c0_i32 : BitVec 32 := 0#32
  let v1 : BitVec 32 := Scalar.select v0 arg1 c0_i32
  let c2_i32_0 : BitVec 32 := 2#32
  let v2 : BitVec 1 := Scalar.cmpi .eq arg0 c2_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, c0_i32_2.toNat, v3.toNat, c0_i32_3.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x197x64x197 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x197x64x197 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Kernel2Ideal.lean ====
variable {F : FTy → Type} [FloatOps F] [Named F]
def κ : String → Option EReal := fun
  | "neg_big" => some ⊥
  | _ => none
-- ==== Proof.KernelIdeal.Runs.lean ====
/- The body of the idealized kernel, run once per phase on whole buffers: what each phase reads, and the one value it
   stores. Phase 0 stores the running maximum, phase 1 the running sum, phase 2 the output block. -/
module

public import proofs.«01_k».proof.Proof.Gen.KernelIdeal.Skeleton
public import proofs.«01_k».proof.Proof.Gen.KernelIdeal.Frame
public import Idealize.ShloMosaic.Lib.Pipeline.Value
public import Idealize.ShloMosaic.Lib.Pipeline.ValueKit
public import Idealize.ShloMosaic.Lib.VecWindow

@[expose] public section

set_option maxRecDepth 16384

noncomputable section

namespace Cert.KernelIdeal.Shift

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The branch condition of phase 0 (the maximum). -/
abbrev isMax (i : grid0.Coords) : Prop :=
  Scalar.cmpi .ne (Scalar.extui (Scalar.cmpi .eq (BitVec.ofNat 32 (i 0).val) 0#32) : BitVec 32) 0#32 = 1#1
/-- The branch condition of phase 1 (the sum). -/
abbrev isSum (i : grid0.Coords) : Prop :=
  Scalar.cmpi .ne (Scalar.extui (Scalar.cmpi .eq (BitVec.ofNat 32 (i 0).val) 1#32) : BitVec 32) 0#32 = 1#1
/-- The branch condition of phase 2 (the output). -/
abbrev isOut (i : grid0.Coords) : Prop := k0_cond3 i = 1#1

/-- Entry `k` of the five scalars. -/
def sc (x0 : Vec F S5 .f32) (k : Fin 5) : Elt F .f32 := x0 (fun a => ⟨k.val, by fin_cases a; exact k.isLt⟩)

/-- A load of the whole block reads the block. -/
theorem ld_blk (x : Vec F S1x197x64x197 .f32) (h : ∀ a, (![0, 0, 0, 0] : Fin 4 → ℕ) a + (![1, 197, 64, 197] : Fin 4 → ℕ) a ≤ S1x197x64x197.size a) :
    View.ld x (Rect.unit (s := S1x197x64x197) ![0, 0, 0, 0] ![1, 197, 64, 197] h) = x :=
  View.ld_unit_lit h x (by decide)
/-- A load of a whole scratch buffer reads the buffer. -/
theorem ld_scr (x : Vec F S8x128 .f32) (h : ∀ a, (![0, 0] : Fin 2 → ℕ) a + (![8, 128] : Fin 2 → ℕ) a ≤ S8x128.size a) :
    View.ld x (Rect.unit (s := S8x128) ![0, 0] ![8, 128] h) = x :=
  View.ld_unit_lit h x (by decide)
/-- A one-cell load of the scalars at offset `k` reads entry `k`. -/
theorem ld_sc (x : Vec F S5 .f32) (k : Fin 5) (h : ∀ a, (![k.val] : Fin 1 → ℕ) a + (![1] : Fin 1 → ℕ) a ≤ S5.size a) (h' : _) :
    View.ld x (Rect.unit (s := S5) ![k.val] ![1] h) (Shape.Idx.first h') = sc x k :=
  congrArg x (funext fun a => Fin.ext (by fin_cases a; rfl))

/-- Phase 0: the scratch of the maximum ends at the first payload of the block, the first scalar and what it held. -/
theorem run_max (c : Dev nD) (i : grid0.Coords) (arg3 : Memref sig .tc .smem S5 .f32) (harg3 : arg3.IsWhole) (arg4 : Memref sig .tc .vmem S1x197x64x197 .f32) (harg4 : arg4.IsWhole) (arg5 : Memref sig .tc .vmem S1x197x64x197 .f32) (harg5 : arg5.IsWhole) (arg6 : Memref sig .tc .vmem S8x128 .f32) (harg6 : arg6.IsWhole) (arg7 : Memref sig .tc .vmem S8x128 .f32) (harg7 : arg7.IsWhole)
    (hc1 : isMax i) (hc2 : ¬isSum i) (hc3 : ¬isOut i)
    (x0 : Vec F S5 .f32) (x1 xi2 : Vec F S1x197x64x197 .f32) (xs0 xs1 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
        ∗ (iprop(owns (c : Thread nD τ) arg3 fullShare x0 ∗ owns (c : Thread nD τ) arg4 fullShare x1 ∗ owns (c : Thread nD τ) arg5 fullShare xi2 ∗ owns (c : Thread nD τ) arg6 fullShare (k0_pay1 i x1 (sc x0 0) xs0) ∗ owns (c : Thread nD τ) arg7 fullShare xs1) -∗ K ⟨⟩))
      ⊢ wp frame (wpE (defs₀ (F := F)) Variants.none c none) E (cc0_qss_fused i arg3 harg3 arg4 harg4 arg5 harg5 arg6 harg6 arg7 harg7) K := by
  simp only [cc0_qss_fused_eq_skeleton]; unfold cc0_qss_fused_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_full]
    simp only [View.readAt_eq_ld, harg3.read_unread, harg4.read_unread, harg6.read_unread, harg7.read_unread, ld_blk, ld_scr]
    exact congrArg (k0_pay1 i x1 · xs0) (ld_sc x0 0 _ _)
  iexists _; isplitr; · ipureintro; exact harg7.read_unread _
  iexact H4

/-- Phase 1: the scratch of the sum ends at the second payload of the block, the maximum, the scalars and what it held. -/
theorem run_sum (c : Dev nD) (i : grid0.Coords) (arg3 : Memref sig .tc .smem S5 .f32) (harg3 : arg3.IsWhole) (arg4 : Memref sig .tc .vmem S1x197x64x197 .f32) (harg4 : arg4.IsWhole) (arg5 : Memref sig .tc .vmem S1x197x64x197 .f32) (harg5 : arg5.IsWhole) (arg6 : Memref sig .tc .vmem S8x128 .f32) (harg6 : arg6.IsWhole) (arg7 : Memref sig .tc .vmem S8x128 .f32) (harg7 : arg7.IsWhole)
    (hc1 : ¬isMax i) (hc2 : isSum i) (hc3 : ¬isOut i)
    (x0 : Vec F S5 .f32) (x1 xi2 : Vec F S1x197x64x197 .f32) (xs0 xs1 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
        ∗ (iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare (k0_pay2 i x1 xs0 (sc x0 3) (sc x0 2) xs1)) -∗ K ⟨⟩))
      ⊢ wp frame (wpE (defs₀ (F := F)) Variants.none c none) E (cc0_qss_fused i arg3 harg3 arg4 harg4 arg5 harg5 arg6 harg6 arg7 harg7) K := by
  simp only [cc0_qss_fused_eq_skeleton]; unfold cc0_qss_fused_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H4
  ipureintro
  sl_unfold_words
  rw [View.read_writes_full]
  simp only [View.readAt_eq_ld, harg3.read_unread, harg4.read_unread, harg6.read_unread, harg7.read_unread, ld_blk, ld_scr]
  exact congrArg₂ (k0_pay2 i x1 xs0 · · xs1) (ld_sc x0 3 _ _) (ld_sc x0 2 _ _)

/-- Phase 2: the output block ends at the third payload of the block, both scratches and the scalars. -/
theorem run_out (c : Dev nD) (i : grid0.Coords) (arg3 : Memref sig .tc .smem S5 .f32) (harg3 : arg3.IsWhole) (arg4 : Memref sig .tc .vmem S1x197x64x197 .f32) (harg4 : arg4.IsWhole) (arg5 : Memref sig .tc .vmem S1x197x64x197 .f32) (harg5 : arg5.IsWhole) (arg6 : Memref sig .tc .vmem S8x128 .f32) (harg6 : arg6.IsWhole) (arg7 : Memref sig .tc .vmem S8x128 .f32) (harg7 : arg7.IsWhole)
    (hc1 : ¬isMax i) (hc2 : ¬isSum i) (hc3 : isOut i)
    (x0 : Vec F S5 .f32) (x1 xi2 : Vec F S1x197x64x197 .f32) (xs0 xs1 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
        ∗ (iprop(owns (c : Thread nD τ) arg3 fullShare x0 ∗ owns (c : Thread nD τ) arg4 fullShare x1 ∗ owns (c : Thread nD τ) arg5 fullShare (k0_pay3 xs1 (sc x0 1) (sc x0 4) x1 xs0 (sc x0 3) (sc x0 2)) ∗ owns (c : Thread nD τ) arg6 fullShare xs0 ∗ owns (c : Thread nD τ) arg7 fullShare xs1) -∗ K ⟨⟩))
      ⊢ wp frame (wpE (defs₀ (F := F)) Variants.none c none) E (cc0_qss_fused i arg3 harg3 arg4 harg4 arg5 harg5 arg6 harg6 arg7 harg7) K := by
  simp only [cc0_qss_fused_eq_skeleton]; unfold cc0_qss_fused_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_full]
    simp only [View.readAt_eq_ld, harg3.read_unread, harg4.read_unread, harg6.read_unread, harg7.read_unread, ld_blk, ld_scr]
    exact (congrArg₂ (k0_pay3 xs1 · · x1 xs0 _ _) (ld_sc x0 1 _ _) (ld_sc x0 4 _ _)).trans
      (congrArg₂ (k0_pay3 xs1 _ _ x1 xs0 · ·) (ld_sc x0 3 _ _) (ld_sc x0 2 _ _))
  isplitl [H3]
  · iexists _; isplitr; · ipureintro; exact harg6.read_unread _
    iexact H3
  iexists _; isplitr; · ipureintro; exact harg7.read_unread _
  iexact H4

end Cert.KernelIdeal.Shift

end
-- ==== Proof.KernelIdeal.Contents.lean ====
/- What the buffers of the idealized kernel hold at each of the 36 grid points: the running maximum over points 0..11,
   the running sum over points 12..23, the output block at points 24..35. -/
module

public import proofs.«01_k».proof.Proof.KernelIdeal.Runs

@[expose] public section

set_option maxRecDepth 16384

noncomputable section

namespace Cert.KernelIdeal.Shift

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨n % 36, lt_of_lt_of_eq (Nat.mod_lt n (by decide)) N_0.symm⟩

theorem pt_val (t : Fin cfg0.N) : pt t.val = t :=
  Fin.ext (Nat.mod_eq_of_lt (lt_of_lt_of_eq t.isLt N_0))

/-- The five scalars at point `t`. -/
abbrev scb (c : Dev nD) (t : Fin cfg0.N) : Vec F S5 .f32 := iblk m c 0 t
/-- The block of the input at point `t`. -/
abbrev xb (c : Dev nD) (t : Fin cfg0.N) : Vec F S1x197x64x197 .f32 := iblk m c 1 t

/-- The scratch of the maximum after point `n`, for `n ≤ 11`. -/
def maxF (c : Dev nD) : ℕ → Vec F S8x128 .f32
  | 0 => k0_pay1 (grid0.coords (pt 0)) (xb m c (pt 0)) (sc (scb m c (pt 0)) 0) (fun _ => FloatOps.ofBits .f32 0)
  | n + 1 => k0_pay1 (grid0.coords (pt (n + 1))) (xb m c (pt (n + 1))) (sc (scb m c (pt (n + 1))) 0) (maxF c n)

/-- What phase 1 stores at point `t` over the sum `s`. -/
abbrev sumStep (c : Dev nD) (t : Fin cfg0.N) (s : Vec F S8x128 .f32) : Vec F S8x128 .f32 :=
  k0_pay2 (grid0.coords t) (xb m c t) (maxF m c 11) (sc (scb m c t) 3) (sc (scb m c t) 2) s

/-- The scratch of the sum after point `12 + n`, for `n ≤ 11`. -/
def sumF (c : Dev nD) : ℕ → Vec F S8x128 .f32
  | 0 => sumStep m c (pt 12) (fun _ => FloatOps.ofBits .f32 0)
  | n + 1 => sumStep m c (pt (12 + (n + 1))) (sumF c n)

/-- The output block stored at point `t` of phase 2. -/
abbrev outF (c : Dev nD) (t : Fin cfg0.N) : Vec F S1x197x64x197 .f32 :=
  k0_pay3 (sumF m c 11) (sc (scb m c t) 1) (sc (scb m c t) 4) (xb m c t) (maxF m c 11) (sc (scb m c t) 3) (sc (scb m c t) 2)

/-- At the first column of the grid the maximum starts afresh: what the scratch held does not matter. -/
theorem pay1_first (i : grid0.Coords) (h1 : (i 1).val = 0) (h2 : (i 2).val = 0) (x : Vec F S1x197x64x197 .f32) (a : Elt F .f32) (v v' : Vec F S8x128 .f32) :
    k0_pay1 i x a v = k0_pay1 i x a v' := by
  unfold k0_pay1; rw [h1, h2]; rfl

/-- At the first column of the grid the sum starts afresh: what the scratch held does not matter. -/
theorem pay2_first (i : grid0.Coords) (h1 : (i 1).val = 0) (h2 : (i 2).val = 0) (x : Vec F S1x197x64x197 .f32) (s : Vec F S8x128 .f32) (a b : Elt F .f32) (v v' : Vec F S8x128 .f32) :
    k0_pay2 i x s a b v = k0_pay2 i x s a b v' := by
  unfold k0_pay2; rw [h1, h2]; rfl

theorem lt36 (t : Fin cfg0.N) : t.val < 36 := lt_of_lt_of_eq t.isLt N_0
theorem co0 (t : Fin cfg0.N) : (grid0.coords t 0).val = t.val / 12 % 3 := Pipeline.Grid.coords_val t 0 (by decide) rfl
theorem co1 (t : Fin cfg0.N) : (grid0.coords t 1).val = t.val / 1 % 12 := Pipeline.Grid.coords_val t 1 (by decide) rfl
theorem co2 (t : Fin cfg0.N) : (grid0.coords t 2).val = t.val / 1 % 1 := Pipeline.Grid.coords_val t 2 (by decide) rfl

/-- Phase 0 is the points before 12. -/
theorem isMax_iff (t : Fin cfg0.N) : isMax (grid0.coords t) ↔ t.val < 12 := by
  have ht := lt36 t
  have e0 := co0 t
  simp only [isMax, e0]
  word_cmp
/-- Phase 1 is the points from 12 to 23. -/
theorem isSum_iff (t : Fin cfg0.N) : isSum (grid0.coords t) ↔ 12 ≤ t.val ∧ t.val < 24 := by
  have ht := lt36 t
  have e0 := co0 t
  have e : isSum (grid0.coords t) ↔ t.val / 12 % 3 = 1 := by
    simp only [isSum, e0]
    word_cmp
  rw [e]; omega
/-- Phase 2 is the points from 24 on. -/
theorem isOut_iff (t : Fin cfg0.N) : isOut (grid0.coords t) ↔ 24 ≤ t.val := by
  have ht := lt36 t
  have e0 := co0 t
  simp only [isOut, k0_cond3, e0]
  word_cmp

/-- One step of the maximum: at point `t < 12`, over what point `t - 1` left (over anything at point 0). -/
theorem maxF_step (c : Dev nD) (t : Fin cfg0.N) (ht : t.val < 12) (v : Vec F S8x128 .f32) (hv : t.val ≠ 0 → v = maxF m c (t.val - 1)) :
    k0_pay1 (grid0.coords t) (xb m c t) (sc (scb m c t) 0) v = maxF m c t.val := by
  have e1 := co1 t
  have e2 := co2 t
  by_cases h : t.val = 0
  · have hp : t = pt 0 := Fin.ext (by simpa [pt] using h)
    subst hp
    exact pay1_first _ (by rw [e1, h]) (by rw [e2, h]) _ _ _ _
  · obtain ⟨n, hn⟩ := Nat.exists_eq_succ_of_ne_zero h
    have hp : t = pt (n + 1) := by rw [← pt_val t, hn]
    rw [hv h, hn]
    show _ = k0_pay1 _ _ _ _
    rw [hp]; rfl

/-- One step of the sum: at point `t` of phase 1, over what point `t - 1` left (over anything at point 12). -/
theorem sumF_step (c : Dev nD) (t : Fin cfg0.N) (ht : 12 ≤ t.val) (ht' : t.val < 24) (v : Vec F S8x128 .f32) (hv : t.val ≠ 12 → v = sumF m c (t.val - 13)) :
    sumStep m c t v = sumF m c (t.val - 12) := by
  have e1 := co1 t
  have e2 := co2 t
  by_cases h : t.val = 12
  · have hp : t = pt 12 := Fin.ext (by simpa [pt] using h)
    rw [h]; subst hp
    exact pay2_first _ (by rw [e1, h]) (by rw [e2, h]) _ _ _ _ _ _
  · obtain ⟨n, hn⟩ : ∃ n, t.val = 12 + (n + 1) := ⟨t.val - 13, by omega⟩
    have hp : t = pt (12 + (n + 1)) := by rw [← pt_val t, hn]
    rw [hv h, hn, show 12 + (n + 1) - 13 = n from by omega, show 12 + (n + 1) - 12 = n + 1 from by omega, hp]
    rfl

end Cert.KernelIdeal.Shift

end
-- ==== Proof.KernelIdeal.Frame.lean ====
/- The idealized kernel runs: every execution ends, with no fault, every semaphore counter back at zero, its arguments
   unchanged and its arrays at the contents that the proof data below states. Both scratch buffers are read before they
   are first stored into, so before point 0 they are held at anything, and the sum's is held at anything until point 12. -/
module

public import proofs.«01_k».proof.Proof.KernelIdeal.Contents

@[expose] public section

set_option maxRecDepth 16384

noncomputable section

namespace Cert.KernelIdeal.Shift

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Where the output window is idle -/

theorem idle_out (t : Fin cfg0.N) (h : ¬24 ≤ t.val) : cfg0.idle 2 (grid0.coords t) = true := by
  have h' : ¬k0_cond3 (grid0.coords t) = 1#1 := fun e => h ((isOut_iff t).mp e)
  show (!(k0_cond3 (grid0.coords t) == 1#1)) = true
  simp [h']
theorem live_out (t : Fin cfg0.N) (h : 24 ≤ t.val) : cfg0.idle 2 (grid0.coords t) = false := by
  have h' : k0_cond3 (grid0.coords t) = 1#1 := (isOut_iff t).mpr h
  show (!(k0_cond3 (grid0.coords t) == 1#1)) = false
  simp [h']
/-- The output is written back exactly at the points of phase 2. -/
theorem flush_out : ∀ t : Fin cfg0.N, (cfg0.win 2).flush t = true ↔ 24 ≤ t.val := by decide +kernel

/-! ## The proof data -/

/-- The scratch buffers, whole. -/
abbrev mMax : Memref sig .tc .vmem S8x128 .f32 := Memref.whole cc0_scratch0
abbrev mSum : Memref sig .tc .vmem S8x128 .f32 := Memref.whole cc0_scratch1

/-- The region's invariant before position `n`: at first both scratch buffers at anything; from point 1 the maximum's at
    the running maximum; from point 13 the sum's at the running sum; the generator register at some state. -/
def Phi (c : Dev nD) (n : ℕ) : sProp 𝕄 :=
  if n = 0 then iprop(iprop((∃ d, owns (c : Thread nD τ) mMax fullShare d) ∗ (∃ d, owns (c : Thread nD τ) mSum fullShare d)) ∗ (∃ r, prngReg c r))
  else if n ≤ 12 then iprop(iprop(owns (c : Thread nD τ) mMax fullShare (maxF m c (n - 1)) ∗ (∃ d, owns (c : Thread nD τ) mSum fullShare d)) ∗ (∃ r, prngReg c r))
  else if n ≤ 24 then iprop(iprop(owns (c : Thread nD τ) mMax fullShare (maxF m c 11) ∗ owns (c : Thread nD τ) mSum fullShare (sumF m c (n - 13))) ∗ (∃ r, prngReg c r))
  else iprop(iprop(owns (c : Thread nD τ) mMax fullShare (maxF m c 11) ∗ owns (c : Thread nD τ) mSum fullShare (sumF m c 11)) ∗ (∃ r, prngReg c r))

theorem Phi_0 (c : Dev nD) (n : ℕ) (h : n = 0) : Phi m c n = iprop(iprop((∃ d, owns (c : Thread nD τ) mMax fullShare d) ∗ (∃ d, owns (c : Thread nD τ) mSum fullShare d)) ∗ (∃ r, prngReg c r)) := by
  unfold Phi; rw [if_pos h]
theorem Phi_1 (c : Dev nD) (n : ℕ) (h0 : n ≠ 0) (h : n ≤ 12) : Phi m c n = iprop(iprop(owns (c : Thread nD τ) mMax fullShare (maxF m c (n - 1)) ∗ (∃ d, owns (c : Thread nD τ) mSum fullShare d)) ∗ (∃ r, prngReg c r)) := by
  unfold Phi; rw [if_neg h0, if_pos h]
theorem Phi_2 (c : Dev nD) (n : ℕ) (h0 : 12 < n) (h : n ≤ 24) : Phi m c n = iprop(iprop(owns (c : Thread nD τ) mMax fullShare (maxF m c 11) ∗ owns (c : Thread nD τ) mSum fullShare (sumF m c (n - 13))) ∗ (∃ r, prngReg c r)) := by
  unfold Phi; rw [if_neg (by omega), if_neg (by omega), if_pos h]
theorem Phi_3 (c : Dev nD) (n : ℕ) (h : 24 ≤ n) : Phi m c n = iprop(iprop(owns (c : Thread nD τ) mMax fullShare (maxF m c 11) ∗ owns (c : Thread nD τ) mSum fullShare (sumF m c 11)) ∗ (∃ r, prngReg c r)) := by
  by_cases h' : n = 24
  · subst h'; exact Phi_2 m c 24 (by omega) (by omega)
  unfold Phi; rw [if_neg (by omega), if_neg (by omega), if_neg (by omega)]

theorem PhiA_eq (c : Dev nD) :
    (Pipeline.ΦA spec0 c : sProp 𝕄)
      = iprop(iprop((∃ d, owns (c : Thread nD τ) mMax fullShare d) ∗ (∃ d, owns (c : Thread nD τ) mSum fullShare d)) ∗ (∃ r, prngReg c r)) := by
  unfold Pipeline.ΦA; rw [scopedRest0_eq]; simp only [mMax, mSum, owns_whole]; try rfl

/-- The proof data of the pipeline on core `c`: the arrays as the region finds them; after point `t` each input's buffer at
    its block and the output's at `outF`; the invariant `Phi`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outF m c t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outF m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at every point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point, by its phase. -/
theorem sound_body (c : Dev nD) (t : Fin cfg0.N) :
    bodyPre m c t ⊢ wp frame (wpE (defs₀ (F := F)) Variants.none c none) Set.univ (bodyAt0 t) (fun _ => bodyPost m c t) := by
  have ht := lt36 t
  unfold bodyPre bodyPost bodyAt0
  simp only [before0_0, before0_1]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  rw [show (dats m 0 c).leavesExact 0 t = owns (c : Thread nD τ) (st0_0 t) fullShare (iblk m c 0 t) from by
    rw [← after0_0]]
  rw [show (dats m 0 c).leavesExact 1 t = owns (c : Thread nD τ) (st0_1 t) fullShare (iblk m c 1 t) from by
    rw [← after0_1]]
  by_cases h1 : t.val < 12
  · have hc1 := (isMax_iff t).mpr h1
    have hc2 : ¬isSum (grid0.coords t) := fun h => by have := (isSum_iff t).mp h; omega
    have hc3 : ¬isOut (grid0.coords t) := fun h => by have := (isOut_iff t).mp h; omega
    rw [Dat.leavesExact_idle (dats m 0 c) 2 t (idle_out t (by omega)) (by have := flush_out t; cases h : (cfg0.win 2).flush t <;> simp_all; omega)]
    rw [Phi_1 m c (t.val + 1) (by omega) (by omega), Nat.add_sub_cancel]
    by_cases h0 : t.val = 0
    · rw [Phi_0 m c _ h0]
      iintro ⟨⟨⟨⟨%d3, H3⟩, ⟨%d4, H4⟩⟩, Hg⟩, Ho, ⟨%d0, H0⟩, ⟨%d1, H1⟩, ⟨%d2, H2⟩⟩
      iapply (run_max c (grid0.coords t) _ _ _ _ _ _ _ _ _ _ hc1 hc2 hc3 (iblk m c 0 t) (iblk m c 1 t) _ d3 d4 Set.univ _)
      rw [maxF_step m c t h1 d3 (fun h => absurd h0 h)]
      isplitl [H0]; · iexact H0
      isplitl [H1]; · iexact H1
      isplitl [H2]; · iexact H2
      isplitl [H3]; · iexact H3
      isplitl [H4]; · iexact H4
      iintro ⟨H0, H1, H2, H3, H4⟩
      isplitl [H3 H4 Hg]
      · isplitl [H3 H4]
        · isplitl [H3]; · iexact H3
          iexists _; iexact H4
        iexact Hg
      isplitl [Ho]; · iexact Ho
      isplitl [H0]; · iexact H0
      isplitl [H1]; · iexact H1
      iexists _; iexact H2
    · rw [Phi_1 m c _ h0 (by omega)]
      iintro ⟨⟨⟨H3, ⟨%d4, H4⟩⟩, Hg⟩, Ho, ⟨%d0, H0⟩, ⟨%d1, H1⟩, ⟨%d2, H2⟩⟩
      iapply (run_max c (grid0.coords t) _ _ _ _ _ _ _ _ _ _ hc1 hc2 hc3 (iblk m c 0 t) (iblk m c 1 t) _ (maxF m c (t.val - 1)) d4 Set.univ _)
      rw [maxF_step m c t h1 _ (fun _ => rfl)]
      isplitl [H0]; · iexact H0
      isplitl [H1]; · iexact H1
      isplitl [H2]; · iexact H2
      isplitl [H3]; · iexact H3
      isplitl [H4]; · iexact H4
      iintro ⟨H0, H1, H2, H3, H4⟩
      isplitl [H3 H4 Hg]
      · isplitl [H3 H4]
        · isplitl [H3]; · iexact H3
          iexists _; iexact H4
        iexact Hg
      isplitl [Ho]; · iexact Ho
      isplitl [H0]; · iexact H0
      isplitl [H1]; · iexact H1
      iexists _; iexact H2
  by_cases h2 : t.val < 24
  · have hc1 : ¬isMax (grid0.coords t) := fun h => h1 ((isMax_iff t).mp h)
    have hc2 := (isSum_iff t).mpr ⟨by omega, h2⟩
    have hc3 : ¬isOut (grid0.coords t) := fun h => by have := (isOut_iff t).mp h; omega
    rw [Dat.leavesExact_idle (dats m 0 c) 2 t (idle_out t (by omega)) (by have := flush_out t; cases h : (cfg0.win 2).flush t <;> simp_all; omega)]
    rw [Phi_2 m c (t.val + 1) (by omega) (by omega), show t.val + 1 - 13 = t.val - 12 from by omega]
    by_cases h0 : t.val = 12
    · rw [Phi_1 m c t.val (by omega) (by omega), show t.val - 1 = 11 from by omega]
      iintro ⟨⟨⟨H3, ⟨%d4, H4⟩⟩, Hg⟩, Ho, ⟨%d0, H0⟩, ⟨%d1, H1⟩, ⟨%d2, H2⟩⟩
      iapply (run_sum c (grid0.coords t) _ _ _ _ _ _ _ _ _ _ hc1 hc2 hc3 (iblk m c 0 t) (iblk m c 1 t) _ (maxF m c 11) d4 Set.univ _)
      rw [show k0_pay2 (grid0.coords t) (iblk m c 1 t) (maxF m c 11) (sc (iblk m c 0 t) 3) (sc (iblk m c 0 t) 2) d4 = sumF m c (t.val - 12) from sumF_step m c t (by omega) h2 d4 (fun h => absurd h0 h)]
      isplitl [H0]; · iexact H0
      isplitl [H1]; · iexact H1
      isplitl [H2]; · iexact H2
      isplitl [H3]; · iexact H3
      isplitl [H4]; · iexact H4
      iintro ⟨H0, H1, H2, H3, H4⟩
      isplitl [H3 H4 Hg]
      · isplitl [H3 H4]
        · isplitl [H3]; · iexact H3
          iexact H4
        iexact Hg
      isplitl [Ho]; · iexact Ho
      isplitl [H0]; · iexact H0
      isplitl [H1]; · iexact H1
      iexists _; iexact H2
    · rw [Phi_2 m c t.val (by omega) (by omega)]
      iintro ⟨⟨⟨H3, H4⟩, Hg⟩, Ho, ⟨%d0, H0⟩, ⟨%d1, H1⟩, ⟨%d2, H2⟩⟩
      iapply (run_sum c (grid0.coords t) _ _ _ _ _ _ _ _ _ _ hc1 hc2 hc3 (iblk m c 0 t) (iblk m c 1 t) _ (maxF m c 11) (sumF m c (t.val - 13)) Set.univ _)
      rw [show k0_pay2 (grid0.coords t) (iblk m c 1 t) (maxF m c 11) (sc (iblk m c 0 t) 3) (sc (iblk m c 0 t) 2) (sumF m c (t.val - 13)) = sumF m c (t.val - 12) from sumF_step m c t (by omega) h2 _ (fun _ => rfl)]
      isplitl [H0]; · iexact H0
      isplitl [H1]; · iexact H1
      isplitl [H2]; · iexact H2
      isplitl [H3]; · iexact H3
      isplitl [H4]; · iexact H4
      iintro ⟨H0, H1, H2, H3, H4⟩
      isplitl [H3 H4 Hg]
      · isplitl [H3 H4]
        · isplitl [H3]; · iexact H3
          iexact H4
        iexact Hg
      isplitl [Ho]; · iexact Ho
      isplitl [H0]; · iexact H0
      isplitl [H1]; · iexact H1
      iexists _; iexact H2
  · have h3 : 24 ≤ t.val := by omega
    have hc1 : ¬isMax (grid0.coords t) := fun h => h1 ((isMax_iff t).mp h)
    have hc2 : ¬isSum (grid0.coords t) := fun h => by have := (isSum_iff t).mp h; omega
    have hc3 := (isOut_iff t).mpr h3
    rw [show (dats m 0 c).leavesExact 2 t = owns (c : Thread nD τ) (st0_2 t) fullShare (outF m c t) from by
      unfold Dat.leavesExact; rw [live_out t h3, after0_2]]
    rw [Phi_3 m c t.val h3, Phi_3 m c (t.val + 1) (by omega)]
    iintro ⟨⟨⟨H3, H4⟩, Hg⟩, Ho, ⟨%d0, H0⟩, ⟨%d1, H1⟩, ⟨%d2, H2⟩⟩
    iapply (run_out c (grid0.coords t) _ _ _ _ _ _ _ _ _ _ hc1 hc2 hc3 (iblk m c 0 t) (iblk m c 1 t) _ (maxF m c 11) (sumF m c 11) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [H3 H4 Hg]
    · isplitl [H3 H4]
      · isplitl [H3]; · iexact H3
        iexact H4
      iexact Hg
    isplitl [Ho]; · iexact Ho
    isplitl [H0]; · iexact H0
    isplitl [H1]; · iexact H1
    iexact H2

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, Phi_0 m c 0 rfl, PhiA_eq]

theorem hout (c : Dev nD) : (dats m 0 c).Φ (Fin.last cfg0.N) ⊢ Pipeline.ΦA spec0 c := by
  rw [show (dats m 0 c).Φ (Fin.last cfg0.N) = Phi m c cfg0.N from rfl, Phi_3 m c _ (by rw [show cfg0.N = 36 from N_0]; decide), PhiA_eq]
  iintro ⟨⟨H3, H4⟩, Hg⟩
  isplitl [H3 H4]
  · isplitl [H3]
    · iexists _; iexact H3
    iexists _; iexact H4
  iexact Hg

/-! ## The run -/

set_option backward.isDefEq.respectTransparency.types false in
set_option maxHeartbeats 800000 in
/-- Every execution ends with the arrays at what the proof data gives, the host's last line run on them, and every counter
    at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Shift

end
-- ==== Proof.Kernel2Ideal.Runs.lean ====
/- The body of the idealized kernel, run once per phase on whole buffers: what each phase reads, and the one value it
   stores. Phase 0 stores the running maximum, phase 1 the running sum, phase 2 the output block. -/
module

public import proofs.«01_k».proof.Proof.Gen.Kernel2Ideal.Skeleton
public import proofs.«01_k».proof.Proof.Gen.Kernel2Ideal.Frame
public import Idealize.ShloMosaic.Lib.Pipeline.Value
public import Idealize.ShloMosaic.Lib.Pipeline.ValueKit
public import Idealize.ShloMosaic.Lib.VecWindow

@[expose] public section

set_option maxRecDepth 16384

noncomputable section

namespace Cert.Kernel2Ideal.Shift

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The branch condition of phase 0 (the maximum). -/
abbrev isMax (i : grid0.Coords) : Prop :=
  Scalar.cmpi .ne (Scalar.extui (Scalar.cmpi .eq (BitVec.ofNat 32 (i 0).val) 0#32) : BitVec 32) 0#32 = 1#1
/-- The branch condition of phase 1 (the sum). -/
abbrev isSum (i : grid0.Coords) : Prop :=
  Scalar.cmpi .ne (Scalar.extui (Scalar.cmpi .eq (BitVec.ofNat 32 (i 0).val) 1#32) : BitVec 32) 0#32 = 1#1
/-- The branch condition of phase 2 (the output). -/
abbrev isOut (i : grid0.Coords) : Prop := k0_cond3 i = 1#1

/-- Entry `k` of the five scalars. -/
def sc (x0 : Vec F S5 .f32) (k : Fin 5) : Elt F .f32 := x0 (fun a => ⟨k.val, by fin_cases a; exact k.isLt⟩)

/-- A load of the whole block reads the block. -/
theorem ld_blk (x : Vec F S1x197x64x197 .f32) (h : ∀ a, (![0, 0, 0, 0] : Fin 4 → ℕ) a + (![1, 197, 64, 197] : Fin 4 → ℕ) a ≤ S1x197x64x197.size a) :
    View.ld x (Rect.unit (s := S1x197x64x197) ![0, 0, 0, 0] ![1, 197, 64, 197] h) = x :=
  View.ld_unit_lit h x (by decide)
/-- A load of a whole scratch buffer reads the buffer. -/
theorem ld_scr (x : Vec F S8x128 .f32) (h : ∀ a, (![0, 0] : Fin 2 → ℕ) a + (![8, 128] : Fin 2 → ℕ) a ≤ S8x128.size a) :
    View.ld x (Rect.unit (s := S8x128) ![0, 0] ![8, 128] h) = x :=
  View.ld_unit_lit h x (by decide)
/-- A one-cell load of the scalars at offset `k` reads entry `k`. -/
theorem ld_sc (x : Vec F S5 .f32) (k : Fin 5) (h : ∀ a, (![k.val] : Fin 1 → ℕ) a + (![1] : Fin 1 → ℕ) a ≤ S5.size a) (h' : _) :
    View.ld x (Rect.unit (s := S5) ![k.val] ![1] h) (Shape.Idx.first h') = sc x k :=
  congrArg x (funext fun a => Fin.ext (by fin_cases a; rfl))

/-- Phase 0: the scratch of the maximum ends at the first payload of the block, the first scalar and what it held. -/
theorem run_max (c : Dev nD) (i : grid0.Coords) (arg3 : Memref sig .tc .smem S5 .f32) (harg3 : arg3.IsWhole) (arg4 : Memref sig .tc .vmem S1x197x64x197 .f32) (harg4 : arg4.IsWhole) (arg5 : Memref sig .tc .vmem S1x197x64x197 .f32) (harg5 : arg5.IsWhole) (arg6 : Memref sig .tc .vmem S8x128 .f32) (harg6 : arg6.IsWhole) (arg7 : Memref sig .tc .vmem S8x128 .f32) (harg7 : arg7.IsWhole)
    (hc1 : isMax i) (hc2 : ¬isSum i) (hc3 : ¬isOut i)
    (x0 : Vec F S5 .f32) (x1 xi2 : Vec F S1x197x64x197 .f32) (xs0 xs1 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
        ∗ (iprop(owns (c : Thread nD τ) arg3 fullShare x0 ∗ owns (c : Thread nD τ) arg4 fullShare x1 ∗ owns (c : Thread nD τ) arg5 fullShare xi2 ∗ owns (c : Thread nD τ) arg6 fullShare (k0_pay1 i x1 (sc x0 0) xs0) ∗ owns (c : Thread nD τ) arg7 fullShare xs1) -∗ K ⟨⟩))
      ⊢ wp frame (wpE (defs₀ (F := F)) Variants.none c none) E (cc0_qss_exact i arg3 harg3 arg4 harg4 arg5 harg5 arg6 harg6 arg7 harg7) K := by
  simp only [cc0_qss_exact_eq_skeleton]; unfold cc0_qss_exact_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_full]
    simp only [View.readAt_eq_ld, harg3.read_unread, harg4.read_unread, harg6.read_unread, harg7.read_unread, ld_blk, ld_scr]
    exact congrArg (k0_pay1 i x1 · xs0) (ld_sc x0 0 _ _)
  iexists _; isplitr; · ipureintro; exact harg7.read_unread _
  iexact H4

/-- Phase 1: the scratch of the sum ends at the second payload of the block, the maximum, the scalars and what it held. -/
theorem run_sum (c : Dev nD) (i : grid0.Coords) (arg3 : Memref sig .tc .smem S5 .f32) (harg3 : arg3.IsWhole) (arg4 : Memref sig .tc .vmem S1x197x64x197 .f32) (harg4 : arg4.IsWhole) (arg5 : Memref sig .tc .vmem S1x197x64x197 .f32) (harg5 : arg5.IsWhole) (arg6 : Memref sig .tc .vmem S8x128 .f32) (harg6 : arg6.IsWhole) (arg7 : Memref sig .tc .vmem S8x128 .f32) (harg7 : arg7.IsWhole)
    (hc1 : ¬isMax i) (hc2 : isSum i) (hc3 : ¬isOut i)
    (x0 : Vec F S5 .f32) (x1 xi2 : Vec F S1x197x64x197 .f32) (xs0 xs1 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
        ∗ (iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare (k0_pay2 i x1 xs0 (sc x0 3) (sc x0 2) xs1)) -∗ K ⟨⟩))
      ⊢ wp frame (wpE (defs₀ (F := F)) Variants.none c none) E (cc0_qss_exact i arg3 harg3 arg4 harg4 arg5 harg5 arg6 harg6 arg7 harg7) K := by
  simp only [cc0_qss_exact_eq_skeleton]; unfold cc0_qss_exact_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H4
  ipureintro
  sl_unfold_words
  rw [View.read_writes_full]
  simp only [View.readAt_eq_ld, harg3.read_unread, harg4.read_unread, harg6.read_unread, harg7.read_unread, ld_blk, ld_scr]
  exact congrArg₂ (k0_pay2 i x1 xs0 · · xs1) (ld_sc x0 3 _ _) (ld_sc x0 2 _ _)

/-- Phase 2: the output block ends at the third payload of the block, both scratches and the scalars. -/
theorem run_out (c : Dev nD) (i : grid0.Coords) (arg3 : Memref sig .tc .smem S5 .f32) (harg3 : arg3.IsWhole) (arg4 : Memref sig .tc .vmem S1x197x64x197 .f32) (harg4 : arg4.IsWhole) (arg5 : Memref sig .tc .vmem S1x197x64x197 .f32) (harg5 : arg5.IsWhole) (arg6 : Memref sig .tc .vmem S8x128 .f32) (harg6 : arg6.IsWhole) (arg7 : Memref sig .tc .vmem S8x128 .f32) (harg7 : arg7.IsWhole)
    (hc1 : ¬isMax i) (hc2 : ¬isSum i) (hc3 : isOut i)
    (x0 : Vec F S5 .f32) (x1 xi2 : Vec F S1x197x64x197 .f32) (xs0 xs1 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
        ∗ (iprop(owns (c : Thread nD τ) arg3 fullShare x0 ∗ owns (c : Thread nD τ) arg4 fullShare x1 ∗ owns (c : Thread nD τ) arg5 fullShare (k0_pay3 xs1 (sc x0 1) (sc x0 4) x1 xs0 (sc x0 3) (sc x0 2)) ∗ owns (c : Thread nD τ) arg6 fullShare xs0 ∗ owns (c : Thread nD τ) arg7 fullShare xs1) -∗ K ⟨⟩))
      ⊢ wp frame (wpE (defs₀ (F := F)) Variants.none c none) E (cc0_qss_exact i arg3 harg3 arg4 harg4 arg5 harg5 arg6 harg6 arg7 harg7) K := by
  simp only [cc0_qss_exact_eq_skeleton]; unfold cc0_qss_exact_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_full]
    simp only [View.readAt_eq_ld, harg3.read_unread, harg4.read_unread, harg6.read_unread, harg7.read_unread, ld_blk, ld_scr]
    exact (congrArg₂ (k0_pay3 xs1 · · x1 xs0 _ _) (ld_sc x0 1 _ _) (ld_sc x0 4 _ _)).trans
      (congrArg₂ (k0_pay3 xs1 _ _ x1 xs0 · ·) (ld_sc x0 3 _ _) (ld_sc x0 2 _ _))
  isplitl [H3]
  · iexists _; isplitr; · ipureintro; exact harg6.read_unread _
    iexact H3
  iexists _; isplitr; · ipureintro; exact harg7.read_unread _
  iexact H4

end Cert.Kernel2Ideal.Shift

end
-- ==== Proof.Kernel2Ideal.Contents.lean ====
/- What the buffers of the idealized kernel hold at each of the 36 grid points: the running maximum over points 0..11,
   the running sum over points 12..23, the output block at points 24..35. -/
module

public import proofs.«01_k».proof.Proof.Kernel2Ideal.Runs

@[expose] public section

set_option maxRecDepth 16384

noncomputable section

namespace Cert.Kernel2Ideal.Shift

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨n % 36, lt_of_lt_of_eq (Nat.mod_lt n (by decide)) N_0.symm⟩

theorem pt_val (t : Fin cfg0.N) : pt t.val = t :=
  Fin.ext (Nat.mod_eq_of_lt (lt_of_lt_of_eq t.isLt N_0))

/-- The five scalars at point `t`. -/
abbrev scb (c : Dev nD) (t : Fin cfg0.N) : Vec F S5 .f32 := iblk m c 0 t
/-- The block of the input at point `t`. -/
abbrev xb (c : Dev nD) (t : Fin cfg0.N) : Vec F S1x197x64x197 .f32 := iblk m c 1 t

/-- The scratch of the maximum after point `n`, for `n ≤ 11`. -/
def maxF (c : Dev nD) : ℕ → Vec F S8x128 .f32
  | 0 => k0_pay1 (grid0.coords (pt 0)) (xb m c (pt 0)) (sc (scb m c (pt 0)) 0) (fun _ => FloatOps.ofBits .f32 0)
  | n + 1 => k0_pay1 (grid0.coords (pt (n + 1))) (xb m c (pt (n + 1))) (sc (scb m c (pt (n + 1))) 0) (maxF c n)

/-- What phase 1 stores at point `t` over the sum `s`. -/
abbrev sumStep (c : Dev nD) (t : Fin cfg0.N) (s : Vec F S8x128 .f32) : Vec F S8x128 .f32 :=
  k0_pay2 (grid0.coords t) (xb m c t) (maxF m c 11) (sc (scb m c t) 3) (sc (scb m c t) 2) s

/-- The scratch of the sum after point `12 + n`, for `n ≤ 11`. -/
def sumF (c : Dev nD) : ℕ → Vec F S8x128 .f32
  | 0 => sumStep m c (pt 12) (fun _ => FloatOps.ofBits .f32 0)
  | n + 1 => sumStep m c (pt (12 + (n + 1))) (sumF c n)

/-- The output block stored at point `t` of phase 2. -/
abbrev outF (c : Dev nD) (t : Fin cfg0.N) : Vec F S1x197x64x197 .f32 :=
  k0_pay3 (sumF m c 11) (sc (scb m c t) 1) (sc (scb m c t) 4) (xb m c t) (maxF m c 11) (sc (scb m c t) 3) (sc (scb m c t) 2)

/-- At the first column of the grid the maximum starts afresh: what the scratch held does not matter. -/
theorem pay1_first (i : grid0.Coords) (h1 : (i 1).val = 0) (h2 : (i 2).val = 0) (x : Vec F S1x197x64x197 .f32) (a : Elt F .f32) (v v' : Vec F S8x128 .f32) :
    k0_pay1 i x a v = k0_pay1 i x a v' := by
  unfold k0_pay1; rw [h1, h2]; rfl

/-- At the first column of the grid the sum starts afresh: what the scratch held does not matter. -/
theorem pay2_first (i : grid0.Coords) (h1 : (i 1).val = 0) (h2 : (i 2).val = 0) (x : Vec F S1x197x64x197 .f32) (s : Vec F S8x128 .f32) (a b : Elt F .f32) (v v' : Vec F S8x128 .f32) :
    k0_pay2 i x s a b v = k0_pay2 i x s a b v' := by
  unfold k0_pay2; rw [h1, h2]; rfl

theorem lt36 (t : Fin cfg0.N) : t.val < 36 := lt_of_lt_of_eq t.isLt N_0
theorem co0 (t : Fin cfg0.N) : (grid0.coords t 0).val = t.val / 12 % 3 := Pipeline.Grid.coords_val t 0 (by decide) rfl
theorem co1 (t : Fin cfg0.N) : (grid0.coords t 1).val = t.val / 1 % 12 := Pipeline.Grid.coords_val t 1 (by decide) rfl
theorem co2 (t : Fin cfg0.N) : (grid0.coords t 2).val = t.val / 1 % 1 := Pipeline.Grid.coords_val t 2 (by decide) rfl

/-- Phase 0 is the points before 12. -/
theorem isMax_iff (t : Fin cfg0.N) : isMax (grid0.coords t) ↔ t.val < 12 := by
  have ht := lt36 t
  have e0 := co0 t
  simp only [isMax, e0]
  word_cmp
/-- Phase 1 is the points from 12 to 23. -/
theorem isSum_iff (t : Fin cfg0.N) : isSum (grid0.coords t) ↔ 12 ≤ t.val ∧ t.val < 24 := by
  have ht := lt36 t
  have e0 := co0 t
  have e : isSum (grid0.coords t) ↔ t.val / 12 % 3 = 1 := by
    simp only [isSum, e0]
    word_cmp
  rw [e]; omega
/-- Phase 2 is the points from 24 on. -/
theorem isOut_iff (t : Fin cfg0.N) : isOut (grid0.coords t) ↔ 24 ≤ t.val := by
  have ht := lt36 t
  have e0 := co0 t
  simp only [isOut, k0_cond3, e0]
  word_cmp

/-- One step of the maximum: at point `t < 12`, over what point `t - 1` left (over anything at point 0). -/
theorem maxF_step (c : Dev nD) (t : Fin cfg0.N) (ht : t.val < 12) (v : Vec F S8x128 .f32) (hv : t.val ≠ 0 → v = maxF m c (t.val - 1)) :
    k0_pay1 (grid0.coords t) (xb m c t) (sc (scb m c t) 0) v = maxF m c t.val := by
  have e1 := co1 t
  have e2 := co2 t
  by_cases h : t.val = 0
  · have hp : t = pt 0 := Fin.ext (by simpa [pt] using h)
    subst hp
    exact pay1_first _ (by rw [e1, h]) (by rw [e2, h]) _ _ _ _
  · obtain ⟨n, hn⟩ := Nat.exists_eq_succ_of_ne_zero h
    have hp : t = pt (n + 1) := by rw [← pt_val t, hn]
    rw [hv h, hn]
    show _ = k0_pay1 _ _ _ _
    rw [hp]; rfl

/-- One step of the sum: at point `t` of phase 1, over what point `t - 1` left (over anything at point 12). -/
theorem sumF_step (c : Dev nD) (t : Fin cfg0.N) (ht : 12 ≤ t.val) (ht' : t.val < 24) (v : Vec F S8x128 .f32) (hv : t.val ≠ 12 → v = sumF m c (t.val - 13)) :
    sumStep m c t v = sumF m c (t.val - 12) := by
  have e1 := co1 t
  have e2 := co2 t
  by_cases h : t.val = 12
  · have hp : t = pt 12 := Fin.ext (by simpa [pt] using h)
    rw [h]; subst hp
    exact pay2_first _ (by rw [e1, h]) (by rw [e2, h]) _ _ _ _ _ _
  · obtain ⟨n, hn⟩ : ∃ n, t.val = 12 + (n + 1) := ⟨t.val - 13, by omega⟩
    have hp : t = pt (12 + (n + 1)) := by rw [← pt_val t, hn]
    rw [hv h, hn, show 12 + (n + 1) - 13 = n from by omega, show 12 + (n + 1) - 12 = n + 1 from by omega, hp]
    rfl

end Cert.Kernel2Ideal.Shift

end
-- ==== Proof.Kernel2Ideal.Frame.lean ====
/- The idealized kernel runs: every execution ends, with no fault, every semaphore counter back at zero, its arguments
   unchanged and its arrays at the contents that the proof data below states. Both scratch buffers are read before they
   are first stored into, so before point 0 they are held at anything, and the sum's is held at anything until point 12. -/
module

public import proofs.«01_k».proof.Proof.Kernel2Ideal.Contents

@[expose] public section

set_option maxRecDepth 16384

noncomputable section

namespace Cert.Kernel2Ideal.Shift

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Where the output window is idle -/

theorem idle_out (t : Fin cfg0.N) (h : ¬24 ≤ t.val) : cfg0.idle 2 (grid0.coords t) = true := by
  have h' : ¬k0_cond3 (grid0.coords t) = 1#1 := fun e => h ((isOut_iff t).mp e)
  show (!(k0_cond3 (grid0.coords t) == 1#1)) = true
  simp [h']
theorem live_out (t : Fin cfg0.N) (h : 24 ≤ t.val) : cfg0.idle 2 (grid0.coords t) = false := by
  have h' : k0_cond3 (grid0.coords t) = 1#1 := (isOut_iff t).mpr h
  show (!(k0_cond3 (grid0.coords t) == 1#1)) = false
  simp [h']
/-- The output is written back exactly at the points of phase 2. -/
theorem flush_out : ∀ t : Fin cfg0.N, (cfg0.win 2).flush t = true ↔ 24 ≤ t.val := by decide +kernel

/-! ## The proof data -/

/-- The scratch buffers, whole. -/
abbrev mMax : Memref sig .tc .vmem S8x128 .f32 := Memref.whole cc0_scratch0
abbrev mSum : Memref sig .tc .vmem S8x128 .f32 := Memref.whole cc0_scratch1

/-- The region's invariant before position `n`: at first both scratch buffers at anything; from point 1 the maximum's at
    the running maximum; from point 13 the sum's at the running sum; the generator register at some state. -/
def Phi (c : Dev nD) (n : ℕ) : sProp 𝕄 :=
  if n = 0 then iprop(iprop((∃ d, owns (c : Thread nD τ) mMax fullShare d) ∗ (∃ d, owns (c : Thread nD τ) mSum fullShare d)) ∗ (∃ r, prngReg c r))
  else if n ≤ 12 then iprop(iprop(owns (c : Thread nD τ) mMax fullShare (maxF m c (n - 1)) ∗ (∃ d, owns (c : Thread nD τ) mSum fullShare d)) ∗ (∃ r, prngReg c r))
  else if n ≤ 24 then iprop(iprop(owns (c : Thread nD τ) mMax fullShare (maxF m c 11) ∗ owns (c : Thread nD τ) mSum fullShare (sumF m c (n - 13))) ∗ (∃ r, prngReg c r))
  else iprop(iprop(owns (c : Thread nD τ) mMax fullShare (maxF m c 11) ∗ owns (c : Thread nD τ) mSum fullShare (sumF m c 11)) ∗ (∃ r, prngReg c r))

theorem Phi_0 (c : Dev nD) (n : ℕ) (h : n = 0) : Phi m c n = iprop(iprop((∃ d, owns (c : Thread nD τ) mMax fullShare d) ∗ (∃ d, owns (c : Thread nD τ) mSum fullShare d)) ∗ (∃ r, prngReg c r)) := by
  unfold Phi; rw [if_pos h]
theorem Phi_1 (c : Dev nD) (n : ℕ) (h0 : n ≠ 0) (h : n ≤ 12) : Phi m c n = iprop(iprop(owns (c : Thread nD τ) mMax fullShare (maxF m c (n - 1)) ∗ (∃ d, owns (c : Thread nD τ) mSum fullShare d)) ∗ (∃ r, prngReg c r)) := by
  unfold Phi; rw [if_neg h0, if_pos h]
theorem Phi_2 (c : Dev nD) (n : ℕ) (h0 : 12 < n) (h : n ≤ 24) : Phi m c n = iprop(iprop(owns (c : Thread nD τ) mMax fullShare (maxF m c 11) ∗ owns (c : Thread nD τ) mSum fullShare (sumF m c (n - 13))) ∗ (∃ r, prngReg c r)) := by
  unfold Phi; rw [if_neg (by omega), if_neg (by omega), if_pos h]
theorem Phi_3 (c : Dev nD) (n : ℕ) (h : 24 ≤ n) : Phi m c n = iprop(iprop(owns (c : Thread nD τ) mMax fullShare (maxF m c 11) ∗ owns (c : Thread nD τ) mSum fullShare (sumF m c 11)) ∗ (∃ r, prngReg c r)) := by
  by_cases h' : n = 24
  · subst h'; exact Phi_2 m c 24 (by omega) (by omega)
  unfold Phi; rw [if_neg (by omega), if_neg (by omega), if_neg (by omega)]

theorem PhiA_eq (c : Dev nD) :
    (Pipeline.ΦA spec0 c : sProp 𝕄)
      = iprop(iprop((∃ d, owns (c : Thread nD τ) mMax fullShare d) ∗ (∃ d, owns (c : Thread nD τ) mSum fullShare d)) ∗ (∃ r, prngReg c r)) := by
  unfold Pipeline.ΦA; rw [scopedRest0_eq]; simp only [mMax, mSum, owns_whole]; try rfl

/-- The proof data of the pipeline on core `c`: the arrays as the region finds them; after point `t` each input's buffer at
    its block and the output's at `outF`; the invariant `Phi`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outF m c t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outF m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at every point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point, by its phase. -/
theorem sound_body (c : Dev nD) (t : Fin cfg0.N) :
    bodyPre m c t ⊢ wp frame (wpE (defs₀ (F := F)) Variants.none c none) Set.univ (bodyAt0 t) (fun _ => bodyPost m c t) := by
  have ht := lt36 t
  unfold bodyPre bodyPost bodyAt0
  simp only [before0_0, before0_1]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  rw [show (dats m 0 c).leavesExact 0 t = owns (c : Thread nD τ) (st0_0 t) fullShare (iblk m c 0 t) from by
    rw [← after0_0]]
  rw [show (dats m 0 c).leavesExact 1 t = owns (c : Thread nD τ) (st0_1 t) fullShare (iblk m c 1 t) from by
    rw [← after0_1]]
  by_cases h1 : t.val < 12
  · have hc1 := (isMax_iff t).mpr h1
    have hc2 : ¬isSum (grid0.coords t) := fun h => by have := (isSum_iff t).mp h; omega
    have hc3 : ¬isOut (grid0.coords t) := fun h => by have := (isOut_iff t).mp h; omega
    rw [Dat.leavesExact_idle (dats m 0 c) 2 t (idle_out t (by omega)) (by have := flush_out t; cases h : (cfg0.win 2).flush t <;> simp_all; omega)]
    rw [Phi_1 m c (t.val + 1) (by omega) (by omega), Nat.add_sub_cancel]
    by_cases h0 : t.val = 0
    · rw [Phi_0 m c _ h0]
      iintro ⟨⟨⟨⟨%d3, H3⟩, ⟨%d4, H4⟩⟩, Hg⟩, Ho, ⟨%d0, H0⟩, ⟨%d1, H1⟩, ⟨%d2, H2⟩⟩
      iapply (run_max c (grid0.coords t) _ _ _ _ _ _ _ _ _ _ hc1 hc2 hc3 (iblk m c 0 t) (iblk m c 1 t) _ d3 d4 Set.univ _)
      rw [maxF_step m c t h1 d3 (fun h => absurd h0 h)]
      isplitl [H0]; · iexact H0
      isplitl [H1]; · iexact H1
      isplitl [H2]; · iexact H2
      isplitl [H3]; · iexact H3
      isplitl [H4]; · iexact H4
      iintro ⟨H0, H1, H2, H3, H4⟩
      isplitl [H3 H4 Hg]
      · isplitl [H3 H4]
        · isplitl [H3]; · iexact H3
          iexists _; iexact H4
        iexact Hg
      isplitl [Ho]; · iexact Ho
      isplitl [H0]; · iexact H0
      isplitl [H1]; · iexact H1
      iexists _; iexact H2
    · rw [Phi_1 m c _ h0 (by omega)]
      iintro ⟨⟨⟨H3, ⟨%d4, H4⟩⟩, Hg⟩, Ho, ⟨%d0, H0⟩, ⟨%d1, H1⟩, ⟨%d2, H2⟩⟩
      iapply (run_max c (grid0.coords t) _ _ _ _ _ _ _ _ _ _ hc1 hc2 hc3 (iblk m c 0 t) (iblk m c 1 t) _ (maxF m c (t.val - 1)) d4 Set.univ _)
      rw [maxF_step m c t h1 _ (fun _ => rfl)]
      isplitl [H0]; · iexact H0
      isplitl [H1]; · iexact H1
      isplitl [H2]; · iexact H2
      isplitl [H3]; · iexact H3
      isplitl [H4]; · iexact H4
      iintro ⟨H0, H1, H2, H3, H4⟩
      isplitl [H3 H4 Hg]
      · isplitl [H3 H4]
        · isplitl [H3]; · iexact H3
          iexists _; iexact H4
        iexact Hg
      isplitl [Ho]; · iexact Ho
      isplitl [H0]; · iexact H0
      isplitl [H1]; · iexact H1
      iexists _; iexact H2
  by_cases h2 : t.val < 24
  · have hc1 : ¬isMax (grid0.coords t) := fun h => h1 ((isMax_iff t).mp h)
    have hc2 := (isSum_iff t).mpr ⟨by omega, h2⟩
    have hc3 : ¬isOut (grid0.coords t) := fun h => by have := (isOut_iff t).mp h; omega
    rw [Dat.leavesExact_idle (dats m 0 c) 2 t (idle_out t (by omega)) (by have := flush_out t; cases h : (cfg0.win 2).flush t <;> simp_all; omega)]
    rw [Phi_2 m c (t.val + 1) (by omega) (by omega), show t.val + 1 - 13 = t.val - 12 from by omega]
    by_cases h0 : t.val = 12
    · rw [Phi_1 m c t.val (by omega) (by omega), show t.val - 1 = 11 from by omega]
      iintro ⟨⟨⟨H3, ⟨%d4, H4⟩⟩, Hg⟩, Ho, ⟨%d0, H0⟩, ⟨%d1, H1⟩, ⟨%d2, H2⟩⟩
      iapply (run_sum c (grid0.coords t) _ _ _ _ _ _ _ _ _ _ hc1 hc2 hc3 (iblk m c 0 t) (iblk m c 1 t) _ (maxF m c 11) d4 Set.univ _)
      rw [show k0_pay2 (grid0.coords t) (iblk m c 1 t) (maxF m c 11) (sc (iblk m c 0 t) 3) (sc (iblk m c 0 t) 2) d4 = sumF m c (t.val - 12) from sumF_step m c t (by omega) h2 d4 (fun h => absurd h0 h)]
      isplitl [H0]; · iexact H0
      isplitl [H1]; · iexact H1
      isplitl [H2]; · iexact H2
      isplitl [H3]; · iexact H3
      isplitl [H4]; · iexact H4
      iintro ⟨H0, H1, H2, H3, H4⟩
      isplitl [H3 H4 Hg]
      · isplitl [H3 H4]
        · isplitl [H3]; · iexact H3
          iexact H4
        iexact Hg
      isplitl [Ho]; · iexact Ho
      isplitl [H0]; · iexact H0
      isplitl [H1]; · iexact H1
      iexists _; iexact H2
    · rw [Phi_2 m c t.val (by omega) (by omega)]
      iintro ⟨⟨⟨H3, H4⟩, Hg⟩, Ho, ⟨%d0, H0⟩, ⟨%d1, H1⟩, ⟨%d2, H2⟩⟩
      iapply (run_sum c (grid0.coords t) _ _ _ _ _ _ _ _ _ _ hc1 hc2 hc3 (iblk m c 0 t) (iblk m c 1 t) _ (maxF m c 11) (sumF m c (t.val - 13)) Set.univ _)
      rw [show k0_pay2 (grid0.coords t) (iblk m c 1 t) (maxF m c 11) (sc (iblk m c 0 t) 3) (sc (iblk m c 0 t) 2) (sumF m c (t.val - 13)) = sumF m c (t.val - 12) from sumF_step m c t (by omega) h2 _ (fun _ => rfl)]
      isplitl [H0]; · iexact H0
      isplitl [H1]; · iexact H1
      isplitl [H2]; · iexact H2
      isplitl [H3]; · iexact H3
      isplitl [H4]; · iexact H4
      iintro ⟨H0, H1, H2, H3, H4⟩
      isplitl [H3 H4 Hg]
      · isplitl [H3 H4]
        · isplitl [H3]; · iexact H3
          iexact H4
        iexact Hg
      isplitl [Ho]; · iexact Ho
      isplitl [H0]; · iexact H0
      isplitl [H1]; · iexact H1
      iexists _; iexact H2
  · have h3 : 24 ≤ t.val := by omega
    have hc1 : ¬isMax (grid0.coords t) := fun h => h1 ((isMax_iff t).mp h)
    have hc2 : ¬isSum (grid0.coords t) := fun h => by have := (isSum_iff t).mp h; omega
    have hc3 := (isOut_iff t).mpr h3
    rw [show (dats m 0 c).leavesExact 2 t = owns (c : Thread nD τ) (st0_2 t) fullShare (outF m c t) from by
      unfold Dat.leavesExact; rw [live_out t h3, after0_2]]
    rw [Phi_3 m c t.val h3, Phi_3 m c (t.val + 1) (by omega)]
    iintro ⟨⟨⟨H3, H4⟩, Hg⟩, Ho, ⟨%d0, H0⟩, ⟨%d1, H1⟩, ⟨%d2, H2⟩⟩
    iapply (run_out c (grid0.coords t) _ _ _ _ _ _ _ _ _ _ hc1 hc2 hc3 (iblk m c 0 t) (iblk m c 1 t) _ (maxF m c 11) (sumF m c 11) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [H3 H4 Hg]
    · isplitl [H3 H4]
      · isplitl [H3]; · iexact H3
        iexact H4
      iexact Hg
    isplitl [Ho]; · iexact Ho
    isplitl [H0]; · iexact H0
    isplitl [H1]; · iexact H1
    iexact H2

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, Phi_0 m c 0 rfl, PhiA_eq]

theorem hout (c : Dev nD) : (dats m 0 c).Φ (Fin.last cfg0.N) ⊢ Pipeline.ΦA spec0 c := by
  rw [show (dats m 0 c).Φ (Fin.last cfg0.N) = Phi m c cfg0.N from rfl, Phi_3 m c _ (by rw [show cfg0.N = 36 from N_0]; decide), PhiA_eq]
  iintro ⟨⟨H3, H4⟩, Hg⟩
  isplitl [H3 H4]
  · isplitl [H3]
    · iexists _; iexact H3
    iexists _; iexact H4
  iexact Hg

/-! ## The run -/

set_option backward.isDefEq.respectTransparency.types false in
set_option maxHeartbeats 800000 in
/-- Every execution ends with the arrays at what the proof data gives, the host's last line run on them, and every counter
    at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel2Ideal.Shift

end
-- ==== Proof.Value.Word.lean ====
/- The power of two that a float's bits spell.

   `pw u` is the number whose float32 bit pattern is `u · 2²³` when that is a whole number. The kernel builds the pattern and
   reads it as a float; the reference writes the power and the mantissa out. This module relates the two on the reals. -/
module

public import Idealize.ShloMosaic.PureOps.Ideal
public import Idealize.ShloMosaic.PureOps.Ideal.Laws

@[expose] public section

noncomputable section

namespace Cert.Shiftmax

open Idealize.ShloMosaic

/-- The piecewise linear power of two with exponent `⌊u⌋ - 127` and mantissa `1 + (u - ⌊u⌋)`. -/
def pw (u : ℝ) : ℝ := (1 + (u - ⌊u⌋)) * (2 : ℝ) ^ (⌊u⌋ - 127)

theorem pw_pos (u : ℝ) : 0 < pw u := by
  have h1 := Int.floor_le u
  have h2 : (0 : ℝ) < (2 : ℝ) ^ (⌊u⌋ - 127) := by positivity
  exact mul_pos (by linarith) h2

/-- The power grows with its argument. -/
theorem pw_mono {u v : ℝ} (h : u ≤ v) : pw u ≤ pw v := by
  have hu := Int.lt_floor_add_one u
  have hu' := Int.floor_le u
  have hv' := Int.floor_le v
  have hfl : ⌊u⌋ ≤ ⌊v⌋ := Int.floor_le_floor h
  unfold pw
  rcases hfl.eq_or_lt with e | l
  · rw [e]
    have : (0 : ℝ) < (2 : ℝ) ^ (⌊v⌋ - 127) := by positivity
    have e' : (⌊u⌋ : ℝ) = ⌊v⌋ := by exact_mod_cast e
    apply mul_le_mul_of_nonneg_right _ this.le
    linarith
  · have h1 : (2 : ℝ) ^ (⌊u⌋ - 127 + 1) ≤ (2 : ℝ) ^ (⌊v⌋ - 127) :=
      zpow_le_zpow_right₀ (by norm_num) (by omega)
    rw [zpow_add₀ (by norm_num), zpow_one] at h1
    have h2 : (0 : ℝ) < (2 : ℝ) ^ (⌊u⌋ - 127) := by positivity
    have h3 : (0 : ℝ) < (2 : ℝ) ^ (⌊v⌋ - 127) := by positivity
    have a : (1 + (u - ⌊u⌋)) * (2 : ℝ) ^ (⌊u⌋ - 127) ≤ 2 * (2 : ℝ) ^ (⌊u⌋ - 127) :=
      mul_le_mul_of_nonneg_right (by linarith) h2.le
    have b : 1 * (2 : ℝ) ^ (⌊v⌋ - 127) ≤ (1 + (v - ⌊v⌋)) * (2 : ℝ) ^ (⌊v⌋ - 127) :=
      mul_le_mul_of_nonneg_right (by linarith) h3.le
    linarith

/-- Moving the argument up by `d` raises the power by at most `2 d` of it. -/
theorem pw_near {v d : ℝ} (h0 : 0 ≤ d) (h1 : d < 1) : pw (v + d) ≤ (1 + 2 * d) * pw v := by
  have hv := Int.floor_le v
  have hv' := Int.lt_floor_add_one v
  have h3 : (0 : ℝ) < (2 : ℝ) ^ (⌊v⌋ - 127) := by positivity
  rcases lt_or_ge (v + d) (⌊v⌋ + 1) with l | g
  · have hf : ⌊v + d⌋ = ⌊v⌋ := by rw [Int.floor_eq_iff]; constructor <;> linarith
    unfold pw
    rw [hf, ← mul_assoc]
    apply mul_le_mul_of_nonneg_right _ h3.le
    nlinarith
  · have hf : ⌊v + d⌋ = ⌊v⌋ + 1 := by rw [Int.floor_eq_iff]; push_cast; constructor <;> linarith
    unfold pw
    rw [hf, show ⌊v⌋ + 1 - 127 = (⌊v⌋ - 127) + 1 by ring, zpow_add₀ (by norm_num), zpow_one, ← mul_assoc, mul_right_comm, ← mul_assoc]
    apply mul_le_mul_of_nonneg_right _ h3.le
    push_cast
    nlinarith

/-- The reference's mantissa and power, at `q = ⌊t⌋`, spell the same number. -/
theorem pw_eq (t : ℝ) : pw (147 - t) = (1 - (t - ⌊t⌋) / 2) * (2 : ℝ) ^ (20 - ⌊t⌋) := by
  have h1 := Int.floor_le t
  have h2 := Int.lt_floor_add_one t
  unfold pw
  rcases h1.eq_or_lt with e | l
  · have hf : ⌊(147 : ℝ) - t⌋ = 147 - ⌊t⌋ := by
      rw [Int.floor_eq_iff]; push_cast; constructor <;> linarith
    rw [hf, show (147 : ℤ) - ⌊t⌋ - 127 = 20 - ⌊t⌋ by ring]
    push_cast
    rw [e]; ring
  · have hf : ⌊(147 : ℝ) - t⌋ = 146 - ⌊t⌋ := by
      rw [Int.floor_eq_iff]; push_cast; constructor <;> linarith
    rw [hf, show (20 : ℤ) - ⌊t⌋ = (146 - ⌊t⌋ - 127) + 1 by ring, zpow_add₀ (by norm_num), zpow_one]
    push_cast
    ring

/-- Rounding a whole number leaves it. -/
theorem round_whole {w : ℝ} (h : (⌊w⌋ : ℝ) = w) : Ideal.roundHalfEven w = ⌊w⌋ := by
  have : w - ((⌊w⌋ : ℤ) : ℝ) < 1 / 2 := by rw [h]; norm_num
  simp only [Ideal.roundHalfEven]
  rw [if_pos this]

/-- Rounding moves a number by at most one half. -/
theorem round_ge (w : ℝ) : w - 1 / 2 ≤ (Ideal.roundHalfEven w : ℝ) := by
  have h1 := Int.floor_le w
  have h2 := Int.lt_floor_add_one w
  simp only [Ideal.roundHalfEven]
  split_ifs <;> push_cast <;> linarith

theorem round_le (w : ℝ) : (Ideal.roundHalfEven w : ℝ) ≤ w + 1 / 2 := by
  have h1 := Int.floor_le w
  have h2 := Int.lt_floor_add_one w
  simp only [Ideal.roundHalfEven]
  split_ifs <;> push_cast <;> linarith

/-- The bits of a whole number `n` in the range of the positive normal patterns, read as a float. -/
theorem ofBits_word (n : ℤ) (lo : 8388608 ≤ n) (hi : n < 2139095040) :
    Ideal.ofBits .f32 (BitVec.ofInt 32 n) = ((pw ((n : ℝ) / 8388608) : ℝ) : EReal) := by
  obtain ⟨k, rfl⟩ : ∃ k : ℕ, n = k := ⟨n.toNat, by omega⟩
  have hk : (BitVec.ofInt 32 (k : ℤ)).toNat = k := by
    rw [BitVec.toNat_ofInt]; omega
  have hfl : ⌊((k : ℤ) : ℝ) / 8388608⌋ = ((k / 8388608 : ℕ) : ℤ) := by
    rw [Int.floor_eq_iff]
    have a : k / 8388608 * 8388608 ≤ k := Nat.div_mul_le_self _ _
    have b : k < (k / 8388608 + 1) * 8388608 := by omega
    have a' : ((k / 8388608 : ℕ) : ℝ) * 8388608 ≤ k := by exact_mod_cast a
    have b' : (k : ℝ) < (((k / 8388608 : ℕ) : ℝ) + 1) * 8388608 := by exact_mod_cast b
    push_cast at a' b' ⊢
    constructor
    · rw [le_div_iff₀ (by norm_num)]; exact a'
    · rw [div_lt_iff₀ (by norm_num)]; exact b'
  have hd : k / 8388608 < 255 := by omega
  have hd1 : 1 ≤ k / 8388608 := by omega
  have hm : k = 8388608 * (k / 8388608) + k % 8388608 := (Nat.div_add_mod k 8388608).symm
  have hneg : ((BitVec.ofInt 32 (k : ℤ)).extractLsb' (8 + 23) 1 == 1#1) = false := by
    have : ((BitVec.ofInt 32 (k : ℤ)).extractLsb' (8 + 23) 1).toNat = 0 := by
      rw [BitVec.extractLsb'_toNat, hk, Nat.shiftRight_eq_div_pow]; omega
    have : (BitVec.ofInt 32 (k : ℤ)).extractLsb' (8 + 23) 1 = 0#1 := BitVec.eq_of_toNat_eq this
    rw [this]; rfl
  have hex : ((BitVec.ofInt 32 (k : ℤ)).extractLsb' 23 8).toNat = k / 8388608 := by
    rw [BitVec.extractLsb'_toNat, hk, Nat.shiftRight_eq_div_pow]; omega
  have hfr : ((BitVec.ofInt 32 (k : ℤ)).extractLsb' 0 23).toNat = k % 8388608 := by
    rw [BitVec.extractLsb'_toNat, hk, Nat.shiftRight_eq_div_pow]; omega
  unfold pw
  rw [hfl]
  show Ideal.ieee 8 23 (BitVec.ofInt 32 (k : ℤ)) = _
  simp only [Ideal.ieee]
  rw [hneg, hex, hfr, if_neg (by omega), if_neg (by omega)]
  congr 1
  generalize hq : k / 8388608 = q at *
  generalize k % 8388608 = r at *
  subst hm
  rw [show ((q : ℕ) : ℤ) - (2 ^ (8 - 1) - 1) - (23 : ℕ) = ((q : ℤ) - 127) + (-23) by push_cast; ring,
    zpow_add₀ (by norm_num)]
  push_cast
  norm_num
  ring

end Cert.Shiftmax

end
-- ==== Proof.Value.Payloads.lean ====
/- What the kernel's three payloads compute on the extended reals, element by element. -/
module

public import proofs.«01_k».proof.Proof.KernelIdeal.Contents
public import proofs.«01_k».proof.Proof.Value.Word
public import Idealize.ShloMosaic.PureOps.Ideal.Laws
public import Idealize.ShloMosaic.Lib.Pipeline.Value
public import Idealize.ShloMosaic.Lib.Pointwise.ElementwiseCore

@[expose] public section

set_option maxRecDepth 16384

noncomputable section

namespace Cert.Shiftmax

open Cert.KernelIdeal Cert.KernelIdeal.Gen Cert.KernelIdeal.Shift
open Idealize.ShloMosaic Idealize.ShloMosaic.TcCoe

/-- The largest element, read over a reshaped index, is the largest element. -/
theorem sup_reshape {s t : Shape} (h : t.numel = s.numel) (f : s.Idx → EReal) :
    (Finset.univ.sup fun j : t.Idx => f (Shape.reshapeEquiv h j)) = Finset.univ.sup f := by
  apply le_antisymm
  · exact Finset.sup_le fun j _ => Finset.le_sup (f := f) (Finset.mem_univ _)
  · refine Finset.sup_le fun i _ => ?_
    have := Finset.le_sup (f := fun j : t.Idx => f (Shape.reshapeEquiv h j)) (Finset.mem_univ ((Shape.reshapeEquiv h).symm i))
    simpa using this

/-- A fold of `max` from `-∞` over every index is the largest element. -/
theorem fold_max {ι : Type} (s : Finset ι) (f : ι → EReal) : s.fold max ⊥ f = s.sup f := rfl

theorem ofBits_neg_inf : Ideal.ofBits .f32 0xFF800000#32 = ⊥ := by
  simp [Ideal.ofBits, Ideal.ieee]

/-- A maximum over every axis, from the pattern of `-∞`, is the largest element. -/
theorem maxRed_total {s t : Shape} {axes : List (Fin s.rank)} (x : FVec Ideal s .f32) (h : s.Reduces axes t) (ht : ∀ b, t.size b = 1)
    (acc : BitVec (FTy.bits .f32)) (ha : Ideal.ofBits .f32 acc = ⊥)
    (hφ : FKind.Formats .f32) (hacc : acc = FKind.maximumf.neutral .f32 hφ) (j : t.Idx) :
    multiReduction .maximumf axes t x acc h hφ hacc j = Finset.univ.sup x := by
  rw [multiReduction_maximumf_eq_fold, Finset.filter_true_of_mem fun i _ => funext fun b => Fin.ext (by
    have := (h.drop i b).isLt; have := (j b).isLt; have := ht b; omega)]
  show Finset.univ.fold max (Ideal.ofBits .f32 acc) x = _
  rw [ha, fold_max]

/-- The kernel's own maximum of a block. -/
theorem maxRed_apply (x : FVec Ideal S1x1x197x64x197 .f32) (j : S1.Idx) :
    multiReduction .maximumf [1, 2, 3, 4] S1 x 0xFF800000#32 reduces_S1x1x197x64x197_S1 (.inl rfl) rfl j = Finset.univ.sup x :=
  maxRed_total x reduces_S1x1x197x64x197_S1 (by intro b; fin_cases b; rfl) _ ofBits_neg_inf _ _ j

/-- An element of a one-element vector, spread over a scratch buffer. -/
theorem spread (R : FVec Ideal S1 .f32) (r : EReal) (h : ∀ q, R q = r) (j : S8x128.Idx) :
    broadcast S8x128 (extractAt ![0, 0, 0, 0, 0] (shapeCast S1x1x1x1x1 R shapeCasts_S1_S1x1x1x1x1) inpos_S1x1x1x1x1_p0_0_0_0_0) j = r :=
  h _

/-- The maximum of a block, spread over a scratch buffer. -/
theorem spread_max (y : FVec Ideal S1x197x64x197 .f32) (j : S8x128.Idx) :
    broadcast S8x128 (extractAt ![0, 0, 0, 0, 0] (shapeCast S1x1x1x1x1 (multiReduction (F := Ideal) .maximumf [1, 2, 3, 4] S1
      (shapeCast S1x1x197x64x197 y shapeCasts_S1x197x64x197_S1x1x197x64x197) 0xFF800000#32 reduces_S1x1x197x64x197_S1 (.inl rfl) rfl)
      shapeCasts_S1_S1x1x1x1x1) inpos_S1x1x1x1x1_p0_0_0_0_0) j = Finset.univ.sup y := by
  refine spread _ _ (fun q => ?_) j
  refine (maxRed_apply _ q).trans ?_
  exact sup_reshape _ y

/-- The float whose bits are the argument, raised to at least `7 · 2²³`, rounded to a whole number. -/
def asBits (w : EReal) : EReal :=
  Ideal.ofBits .f32 (Ideal.fptosi 32 (Ideal.liftRound Ideal.roundHalfEven (max w (Ideal.ofBits .f32 0x4C600000#32))))

/-- The guard of the two scratch buffers: the first column of a phase. -/
abbrev first (i : grid0.Coords) : BitVec 1 :=
  Scalar.andi (Scalar.cmpi .eq (BitVec.ofNat 32 (i 1).val) 0#32) (Scalar.cmpi .eq (BitVec.ofNat 32 (i 2).val) 0#32)

theorem first_one (i : grid0.Coords) (h1 : (i 1).val = 0) (h2 : (i 2).val = 0) : first i = 1#1 := by
  unfold first; rw [h1, h2]; rfl

theorem first_zero (i : grid0.Coords) (h1 : (i 1).val ≠ 0) : first i = 0#1 := by
  have hl : (i 1).val < 12 := (i 1).isLt
  unfold first
  have : Scalar.cmpi .eq (BitVec.ofNat 32 (i 1).val) 0#32 = 0#1 := by
    have hne : (BitVec.ofNat 32 (i 1).val == 0#32) = false := by
      rw [beq_eq_false_iff_ne]
      intro e
      have := congrArg BitVec.toNat e
      rw [BitVec.toNat_ofNat] at this
      simp at this
      omega
    show BitVec.ofBool (BitVec.ofNat 32 (i 1).val == 0#32) = 0#1
    rw [hne]; rfl
  rw [this]
  show (0#1 : BitVec 1) &&& _ = 0#1
  simp

/-- One step of the running maximum. -/
theorem pay1_apply (i : grid0.Coords) (x : Vec Ideal S1x197x64x197 .f32) (a : EReal) (v : Vec Ideal S8x128 .f32) (j : S8x128.Idx) :
    k0_pay1 (F := Ideal) i x a v j
      = max (if first i = 1#1 then ⊥ else v j) (Finset.univ.sup fun k : S1x197x64x197.Idx => x k * a) := by
  have hn : (Named.named (F := Ideal) (φ := .f32) Cert.KernelIdeal.κ "neg_big" 0xFF61B1E6#32 : Ideal .f32) = (⊥ : EReal) :=
    IdealRules.named_const.ideal_named_scalar _ _ _ _ rfl
  have hx : (fun k : S1x197x64x197.Idx => x k * a) = mulf (F := Ideal) (φ := .f32) x (broadcast S1x197x64x197 a) := rfl
  unfold k0_pay1
  rw [shapeCast_self, shapeCast_self, maximumf_apply, spread_max, hn, hx]
  generalize Finset.univ.sup (mulf (F := Ideal) (φ := .f32) x (broadcast S1x197x64x197 a)) = S
  show max ((if first i = 1#1 then broadcast S8x128 (⊥ : EReal) else v) j) S = max (if first i = 1#1 then (⊥ : EReal) else v j) S
  split_ifs <;> rfl

/-- The point of the bit line that phases 1 and 2 reach: the input scaled, plus the offset. -/
def line (M a3 a2 x : EReal) : EReal := x * a2 + (Ideal.ofBits .f32 0x4E930000#32 - M * a3)

/-- One step of the running sum. -/
theorem pay2_apply (i : grid0.Coords) (x : Vec Ideal S1x197x64x197 .f32) (M a3 a2 : EReal) (v : Vec Ideal S8x128 .f32) (j : S8x128.Idx) :
    k0_pay2 (F := Ideal) i x (fun _ => M) a3 a2 v j
      = (if first i = 1#1 then 0 else v j) + ∑ k : S1x197x64x197.Idx, asBits (line M a3 a2 (x k)) := by
  unfold k0_pay2
  rw [shapeCast_self, shapeCast_self]
  show (Scalar.select (first i) (broadcast S8x128 _) v j) + (shapeCast _ _ _ _) = _
  refine congrArg₂ (fun a b : EReal => a + b) ?_ ?_
  · rw [show (Scalar.ofBits .f32 (0x00000000#32) : Ideal .f32) = 0 from Ideal.ofBits_zero_f32]
    unfold Scalar.select
    split_ifs <;> first | rfl | simp_all
  · unfold shapeCast
    refine (Ideal.multiReduction_add_total _ _ _ (by intro b; fin_cases b; rfl) _ _ _).trans ?_
    exact Equiv.sum_comp (Shape.reshapeEquiv _) (fun k : S1x197x64x197.Idx => asBits (line M a3 a2 (x k)))

/-- The output block. -/
theorem pay3_apply (s a1 a4 : EReal) (x : Vec Ideal S1x197x64x197 .f32) (M a3 a2 : EReal) (k : S1x197x64x197.Idx) :
    k0_pay3 (F := Ideal) (fun _ => s) a1 a4 x (fun _ => M) a3 a2 k
      = asBits (line M a3 a2 (x k)) * (Ideal.liftRound Int.floor (Ideal.div (Ideal.ofBits .f32 0x4E800000#32) (s * a1)) * a4) := by
  unfold k0_pay3
  rw [shapeCast_self]
  rfl

end Cert.Shiftmax

end
-- ==== Proof.Value.Entry.lean ====
/- What the kernel's region finds: the input transposed, and the five scalars made of the scale. -/
module

public import proofs.«01_k».proof.Proof.Value.Payloads
public import Idealize.ShloMosaic.Lib.Pointwise.Index
public import Idealize.ShloMosaic.Lib.IdealHost

@[expose] public section

set_option maxRecDepth 16384

noncomputable section

namespace Cert.Shiftmax

open Cert.KernelIdeal Cert.KernelIdeal.Gen Cert.KernelIdeal.Shift
open Idealize.ShloMosaic Idealize.ShloMosaic.TcCoe

variable (m : (ℓ : Loc nD τ sig) → Buf (Elt Ideal) ℓ)

/-- The input. -/
abbrev X (c : Dev nD) : FVec Ideal S64x12x197x197 .f32 := m ((c : Thread nD τ).loc main_arg0)
/-- The scale. -/
abbrev S (c : Dev nD) : EReal := (m ((c : Thread nD τ).loc main_arg1) : FVec Ideal S1 .f32) (ix1 0)

/-- The region reads the input transposed. -/
theorem V_v0 (c : Dev nD) : V (F := Ideal) m c main_v0
    = transpose S12x197x64x197 [1, 2, 0, 3] (X m c) transposes_S64x12x197x197_S12x197x64x197_1_2_0_3 := by
  unfold V V0
  simp only [hostOps0, hostOps0_1, hostOps0_2, List.flatten_cons, List.flatten_nil, List.append_nil, List.cons_append, List.nil_append]
  after_results

/-- Block `n` of the transposed input at `k` is the input at this index. -/
def emb (n : Fin 12) (k : S1x197x64x197.Idx) : S64x12x197x197.Idx := ix4 (k 2 : Fin 64) n (k 1 : Fin 197) (k 3 : Fin 197)

/-- Where the input's block at point `t` starts. -/
theorem index1 (t : Fin cfg0.N) : win0_1.index t 0 = t.val % 12 ∧ win0_1.index t 1 = 0 ∧ win0_1.index t 2 = 0 ∧ win0_1.index t 3 = 0 := by
  refine ⟨?_, rfl, ?_, rfl⟩
  · show (BitVec.ofNat 32 (grid0.coords t 1).val).toNat = _
    rw [co1, BitVec.toNat_ofNat]; omega
  · show (BitVec.ofNat 32 (grid0.coords t 2).val).toNat = _
    rw [co2, BitVec.toNat_ofNat]; omega

/-- The input's cell that the block's cell `k` at point `t` holds, coordinate by coordinate. -/
theorem blk_emb (t : Fin cfg0.N) (n : Fin 12) (hn : n.val = t.val % 12) (k : S1x197x64x197.Idx) (b : Fin S12x197x64x197.rank) :
    (emb n k ([1, 2, 0, 3] : List (Fin S64x12x197x197.rank))[b.cast transposes_S64x12x197x197_S12x197x64x197_1_2_0_3.2.1]).val
      = (((cfg0.win 1).blk t).view.emb k b).val := by
  obtain ⟨i0, i1, i2, i3⟩ := index1 t
  have h0 : (k 0).val = 0 := by have : (k 0).val < 1 := (k 0).isLt; omega
  match b with
  | ⟨0, _⟩ => show n.val = win0_1.index t 0 * 1 + 1 * (k 0).val; rw [i0, h0]; omega
  | ⟨1, _⟩ => show (k 1).val = win0_1.index t 1 * 197 + 1 * (k 1).val; rw [i1]; omega
  | ⟨2, _⟩ => show (k 2).val = win0_1.index t 2 * 64 + 1 * (k 2).val; rw [i2]; omega
  | ⟨3, _⟩ => show (k 3).val = win0_1.index t 3 * 197 + 1 * (k 3).val; rw [i3]; omega

/-- The cell `k` of the transposed input's block at point `t` is the cell of the input at `emb` of the block's number and `k`. -/
theorem xb_apply (c : Dev nD) (t : Fin cfg0.N) (n : Fin 12) (hn : n.val = t.val % 12) (k : S1x197x64x197.Idx) :
    xb (F := Ideal) m c t k = X m c (emb n k) := by
  unfold xb iblk
  rw [View.read_apply]
  show V (F := Ideal) m c main_v0 _ = _
  rw [V_v0]
  exact transpose_apply _ _ _ _ _ (blk_emb t n hn k)

/-- One over the scale, as the host divides. -/
def inv (s : EReal) : EReal := Ideal.div (Ideal.ofBits .f32 0x3F800000#32) s
/-- The whole number next to it. -/
def base (s : EReal) : EReal := Ideal.liftRound Ideal.roundHalfEven (inv s)
/-- The slope of the bit line. -/
def slope (s : EReal) : EReal := Ideal.div (Ideal.ofBits .f32 0x4B380000#32) (base s)

/-- The one cell of a one-element vector. -/
abbrev cell : S1.Idx := ix1 (0 : Fin 1)

/-- Five one-element vectors laid end to end. -/
theorem sc_five (a b c d e : FVec Ideal S1 .f32) (h : Shape.Concatenates [S1, S1, S1, S1, S1] S5 0) (k : Fin 5) :
    sc (F := Ideal) (concatenate S5 0 [⟨S1, a⟩, ⟨S1, b⟩, ⟨S1, c⟩, ⟨S1, d⟩, ⟨S1, e⟩] h : Vec Ideal S5 .f32) k = ![a cell, b cell, c cell, d cell, e cell] k := by
  unfold sc
  fin_cases k
  · exact concatenate_apply_piece (t := S5) 0 [⟨S1, a⟩, ⟨S1, b⟩, ⟨S1, c⟩, ⟨S1, d⟩, ⟨S1, e⟩] h _ 0 (by simp) S1 a rfl rfl 0 rfl cell (fun b hb => absurd (Subsingleton.elim _ _) hb) rfl
  · exact concatenate_apply_piece (t := S5) 0 [⟨S1, a⟩, ⟨S1, b⟩, ⟨S1, c⟩, ⟨S1, d⟩, ⟨S1, e⟩] h _ 1 (by simp) S1 b rfl rfl 1 rfl cell (fun b hb => absurd (Subsingleton.elim _ _) hb) rfl
  · exact concatenate_apply_piece (t := S5) 0 [⟨S1, a⟩, ⟨S1, b⟩, ⟨S1, c⟩, ⟨S1, d⟩, ⟨S1, e⟩] h _ 2 (by simp) S1 c rfl rfl 2 rfl cell (fun b hb => absurd (Subsingleton.elim _ _) hb) rfl
  · exact concatenate_apply_piece (t := S5) 0 [⟨S1, a⟩, ⟨S1, b⟩, ⟨S1, c⟩, ⟨S1, d⟩, ⟨S1, e⟩] h _ 3 (by simp) S1 d rfl rfl 3 rfl cell (fun b hb => absurd (Subsingleton.elim _ _) hb) rfl
  · exact concatenate_apply_piece (t := S5) 0 [⟨S1, a⟩, ⟨S1, b⟩, ⟨S1, c⟩, ⟨S1, d⟩, ⟨S1, e⟩] h _ 4 (by simp) S1 e rfl rfl 4 rfl cell (fun b hb => absurd (Subsingleton.elim _ _) hb) rfl

/-- The region reads these five scalars. -/
theorem V_v11 (c : Dev nD) (k : Fin 5) : sc (V (F := Ideal) m c main_v11) k
    = ![inv (S m c), base (S m c), slope (S m c) * inv (S m c), slope (S m c), Ideal.ofBits .f32 0x30800000#32 * base (S m c)] k := by
  unfold V V0
  simp only [hostOps0, hostOps0_1, hostOps0_2, List.flatten_cons, List.flatten_nil, List.append_nil, List.cons_append, List.nil_append]
  simp only [StableHlo.after_cons, StableHlo.after_nil]
  rw [StableHlo.nary_result]
  refine (sc_five _ _ _ _ _ _ k).trans ?_
  refine congrFun (congrArg₂ Matrix.vecCons ?_ (congrArg₂ Matrix.vecCons ?_ (congrArg₂ Matrix.vecCons ?_ (congrArg₂ Matrix.vecCons ?_ (congrArg₂ Matrix.vecCons ?_ rfl))))) k
  · show (HloOp.result _ _ (Proc.devRef .tc main_v2)) cell = _
    after_results_simp
    rfl
  · show (HloOp.result _ _ (Proc.devRef .tc main_v5)) cell = _
    after_results_simp
    rfl
  · show (HloOp.result _ _ (Proc.devRef .tc main_v8)) cell = _
    after_results_simp
    rfl
  · show (HloOp.result _ _ (Proc.devRef .tc main_v7)) cell = _
    after_results_simp
    rfl
  · show (HloOp.result _ _ (Proc.devRef .tc main_v10)) cell = _
    after_results_simp
    rfl

/-- The scalars of the block are the array's, at every point. -/
theorem scb_apply (c : Dev nD) (t : Fin cfg0.N) (k : Fin 5) :
    sc (F := Ideal) (scb (F := Ideal) m c t) k = sc (F := Ideal) (V (F := Ideal) m c main_v11) k := by
  unfold scb iblk sc
  rw [View.read_apply]
  refine congrArg (V (F := Ideal) m c main_v11) (funext fun a => Fin.ext ?_)
  match a with
  | ⟨0, _⟩ => show 0 * 5 + 1 * k.val = k.val; omega

end Cert.Shiftmax

end
-- ==== Proof.Value.Host.lean ====
/- The reference's result at a cell: its operations composed, each read at the cell. -/
module

public import proofs.«01_k».proof.Proof.Value.Entry
public import proofs.«01_k».proof.Proof.Gen.ReferenceIdeal.Run

@[expose] public section

set_option maxRecDepth 16384

noncomputable section

namespace Cert.Shiftmax

open Idealize.ShloMosaic

/-- The input's shape, one element, and a scalar. -/
abbrev A : Shape := ⟨4, ![64, 12, 197, 197]⟩
abbrev B : Shape := ⟨1, ![1]⟩
abbrev C : Shape := ⟨4, ![1, 1, 1, 1]⟩
abbrev D : Shape := ⟨0, ![]⟩

/-- A one-element vector spread over the input's shape. -/
theorem wide_apply {α : Type} (v : B.Idx → α) (h : C.BroadcastsInDim A ![0, 1, 2, 3]) (h' : B.BroadcastsInDim C ![3]) (i : A.Idx) :
    broadcastInDim A ![0, 1, 2, 3] h (broadcastInDim C ![3] h' v) i = v (ix1 (0 : Fin 1)) := by
  unfold broadcastInDim
  refine congrArg v (funext fun a => ?_)
  match a with
  | ⟨0, _⟩ => exact Subsingleton.elim (α := Fin 1) _ _

/-- A reduction of every axis by the maximum, from the pattern of `-∞`. -/
theorem hostMax_apply (x : FVec Ideal A .f32) (h : A.ReducesTo [0, 1, 2, 3] D) (hu : 0 < D.numel) (acc : BitVec (FTy.bits .f32))
    (ha : Ideal.ofBits .f32 acc = ⊥) (j : D.Idx) :
    Host.reduce (FloatOps.maximumf (F := Ideal) (φ := .f32)) x (constant D .f32 acc) h hu j = Finset.univ.sup x := by
  rw [Host.reduce_eq_fold, Finset.filter_true_of_mem fun i _ => funext fun b => b.elim0]
  show Finset.univ.fold max (Ideal.ofBits .f32 acc) x = _
  rw [ha, fold_max]

/-- A sum over every axis. -/
theorem hostSum_apply (x : FVec Ideal A .f32) (h : A.ReducesTo [0, 1, 2, 3] D) (hu : 0 < D.numel) (j : D.Idx) :
    Host.reduceAdd x (constant D .f32 0x00000000#32) h hu j = ∑ i, x i := by
  rw [ValueIdx.hostReduceAdd_apply, Ideal.hostReduceAdd_total _ (fun b => b.elim0)]
  show Ideal.ofBits .f32 0x00000000#32 + _ = _
  rw [Ideal.ofBits_zero_f32, zero_add]

/-! ## The reference, as arithmetic -/

/-- The largest of the scaled cells. -/
def topR (X : A.Idx → EReal) (s : EReal) : EReal := Finset.univ.sup fun i => Ideal.div (X i) s
/-- A cell's distance below it, times 1.4375. -/
def ipR (M s x : EReal) : EReal := (Ideal.div x s - M) * Ideal.ofBits .f32 0x3FB80000#32
/-- The whole part of its quotient by minus the base. -/
def qR (M s x : EReal) : EReal := Ideal.liftRound Int.floor (Ideal.div (ipR M s x) (-base s))
/-- The shifted linear piece: the reference's power at a cell. -/
def exR (M s x : EReal) : EReal :=
  (-(-(ipR M s x + qR M s x * base s)) * Ideal.ofBits .f32 0x3F000000#32 + base s)
    * Ideal.pow (Ideal.ofBits .f32 0x40000000#32) (Ideal.ofBits .f32 0x41A00000#32 - qR M s x)
/-- The sum of the powers. -/
def denR (X : A.Idx → EReal) (s : EReal) : EReal := ∑ i, exR (topR X s) s (X i)
/-- The reference's result at a cell. -/
def outR (X : A.Idx → EReal) (s : EReal) (i : A.Idx) : EReal :=
  Ideal.liftRound Int.floor (Ideal.div (Ideal.ofBits .f32 0x4E800000#32) (denR X s)) * exR (topR X s) s (X i)
    * Ideal.ofBits .f32 0x34000000#32 * Ideal.ofBits .f32 0x3C000000#32

/-! ## The reference, operation by operation -/

section Steps

open Cert.ReferenceIdeal Cert.ReferenceIdeal.Gen Cert.ReferenceIdeal.Facts

abbrev wide (v : FVec Ideal B .f32) : FVec Ideal A .f32 :=
  broadcastInDim S64x12x197x197 ![0, 1, 2, 3] bcast_S1x1x1x1_S64x12x197x197_0_1_2_3 (broadcastInDim S1x1x1x1 ![3] bcast_S1_S1x1x1x1_3 v)
abbrev fill (v : FVec Ideal D .f32) : FVec Ideal A .f32 := broadcastInDim S64x12x197x197 ![] bcast_S_S64x12x197x197 v

def yV (x : FVec Ideal A .f32) (s : FVec Ideal B .f32) : FVec Ideal A .f32 := Host.divf x (wide s)
def topV (x : FVec Ideal A .f32) (s : FVec Ideal B .f32) : FVec Ideal D .f32 :=
  Host.reduce FloatOps.maximumf (yV x s) (constant S_ .f32 0xFF800000#32) reducesTo_S64x12x197x197_S_d0_1_2_3 h_S_
def ipV (x : FVec Ideal A .f32) (s : FVec Ideal B .f32) : FVec Ideal A .f32 :=
  mulf (subf (yV x s) (fill (topV x s))) (fill (constant S_ .f32 0x3FB80000#32))
def baseV (s : FVec Ideal B .f32) : FVec Ideal B .f32 :=
  Host.roundeven (Host.divf (broadcastInDim S1 ![] bcast_S_S1 (constant S_ .f32 0x3F800000#32)) s)
def qV (x : FVec Ideal A .f32) (s : FVec Ideal B .f32) : FVec Ideal A .f32 :=
  Host.floor (Host.divf (ipV x s) (wide (Host.negf (baseV s))))
def exV (x : FVec Ideal A .f32) (s : FVec Ideal B .f32) : FVec Ideal A .f32 :=
  mulf (addf (mulf (Host.negf (Host.negf (addf (ipV x s) (mulf (qV x s) (wide (baseV s)))))) (fill (constant S_ .f32 0x3F000000#32))) (wide (baseV s)))
    (Host.powf (fill (constant S_ .f32 0x40000000#32)) (subf (fill (constant S_ .f32 0x41A00000#32)) (qV x s)))
def denV (x : FVec Ideal A .f32) (s : FVec Ideal B .f32) : FVec Ideal D .f32 :=
  Host.reduceAdd (exV x s) (constant S_ .f32 0x00000000#32) reducesTo_S64x12x197x197_S_d0_1_2_3 h_S_
def outV (x : FVec Ideal A .f32) (s : FVec Ideal B .f32) : FVec Ideal A .f32 :=
  mulf (mulf (mulf (fill (Host.floor (Host.divf (constant S_ .f32 0x4E800000#32) (denV x s)))) (exV x s)) (fill (constant S_ .f32 0x34000000#32)))
    (fill (constant S_ .f32 0x3C000000#32))

variable (x : FVec Ideal A .f32) (s : FVec Ideal B .f32)

theorem base_eq : baseV s (ix1 (0 : Fin 1)) = base (s (ix1 (0 : Fin 1))) := rfl

theorem wide_eq (v : FVec Ideal B .f32) (i : A.Idx) : wide v i = v (ix1 (0 : Fin 1)) := wide_apply v _ _ i

theorem y_eq : yV x s = fun i => Ideal.div (x i) (s (ix1 (0 : Fin 1))) := funext fun i => by
  show Ideal.div (x i) (wide s i) = _
  rw [wide_eq]

theorem top_eq (j : D.Idx) : topV x s j = topR x (s (ix1 (0 : Fin 1))) := by
  unfold topV topR
  rw [hostMax_apply _ _ _ _ ofBits_neg_inf, y_eq]

theorem ip_eq (i : A.Idx) : ipV x s i = ipR (topR x (s (ix1 (0 : Fin 1)))) (s (ix1 (0 : Fin 1))) (x i) := by
  show (yV x s i - topV x s _) * Ideal.ofBits .f32 0x3FB80000#32 = _
  rw [top_eq, y_eq]
  rfl

theorem q_eq (i : A.Idx) : qV x s i = qR (topR x (s (ix1 (0 : Fin 1)))) (s (ix1 (0 : Fin 1))) (x i) := by
  show Ideal.liftRound Int.floor (Ideal.div (ipV x s i) (wide (Host.negf (baseV s)) i)) = _
  rw [ip_eq, wide_eq]
  rfl

theorem ex_eq : exV x s = fun i => exR (topR x (s (ix1 (0 : Fin 1)))) (s (ix1 (0 : Fin 1))) (x i) := funext fun i => by
  show (-(-(ipV x s i + qV x s i * wide (baseV s) i)) * Ideal.ofBits .f32 0x3F000000#32 + wide (baseV s) i)
    * Ideal.pow (Ideal.ofBits .f32 0x40000000#32) (Ideal.ofBits .f32 0x41A00000#32 - qV x s i) = _
  rw [ip_eq, q_eq, wide_eq, base_eq]
  rfl

theorem den_eq (j : D.Idx) : denV x s j = denR x (s (ix1 (0 : Fin 1))) := by
  unfold denV denR
  rw [hostSum_apply, ex_eq]

theorem out_eq (i : A.Idx) : outV x s i = outR x (s (ix1 (0 : Fin 1))) i := by
  show Ideal.liftRound Int.floor (Ideal.div (Ideal.ofBits .f32 0x4E800000#32) (denV x s _)) * exV x s i
    * Ideal.ofBits .f32 0x34000000#32 * Ideal.ofBits .f32 0x3C000000#32 = _
  rw [den_eq, ex_eq]
  rfl

/-- The reference's result is the last of the steps. -/
theorem res_eq (m : (ℓ : Loc nD τ sig) → Buf (Elt Ideal) ℓ) (c : Dev nD) :
    Value.res_main_v40 m c = outV (m ((c.tc : Thread nD τ).loc main_arg0)) (m ((c.tc : Thread nD τ).loc main_arg1)) := by
  unfold Value.res_main_v40 outV denV exV qV ipV topV baseV yV
  rfl

end Steps

end Cert.Shiftmax

end
-- ==== Proof.Value.Pre.lean ====
/- The precondition at a cell: its operations composed, each read at the cell, and what it states. -/
module

public import proofs.«01_k».proof.Proof.Value.Host
public import proofs.«01_k».proof.Pre_on_grid_or_flushed

@[expose] public section

set_option maxRecDepth 16384

noncomputable section

namespace Cert.Shiftmax

open Idealize.ShloMosaic
/-- The side conditions of the precondition's operations: the reference's own. -/
instance preFacts : Cert.Pre_on_grid_or_flushed.Facts where
  bcast_S1_S1x1x1x1_3 := Cert.ReferenceIdeal.Gen.bcast_S1_S1x1x1x1_3
  bcast_S1x1x1x1_S64x12x197x197_0_1_2_3 := Cert.ReferenceIdeal.Gen.bcast_S1x1x1x1_S64x12x197x197_0_1_2_3
  bcast_S_S1 := Cert.ReferenceIdeal.Gen.bcast_S_S1
  reducesTo_S64x12x197x197_S_d0_1_2_3 := Cert.ReferenceIdeal.Gen.reducesTo_S64x12x197x197_S_d0_1_2_3
  h_S_ := Cert.ReferenceIdeal.Gen.h_S_
  bcast_S_S64x12x197x197 := Cert.ReferenceIdeal.Gen.bcast_S_S64x12x197x197

open Cert.Pre_on_grid_or_flushed Cert.Pre_on_grid_or_flushed.Facts

/-! ## The precondition, as arithmetic -/

/-- The shift of a cell: its distance below the largest, times 1.4375, over the base. -/
def shift (M s x : EReal) : EReal := Ideal.div ((M - Ideal.div x s) * Ideal.ofBits .f32 0x3FB80000#32) (base s)
/-- The bit pattern's number that the kernel rounds. -/
def bits (M s x : EReal) : EReal := (Ideal.ofBits .f32 0x43130000#32 - shift M s x) * Ideal.ofBits .f32 0x4B000000#32
/-- The power by its shift. -/
def ePre (M s x : EReal) : EReal :=
  (Ideal.ofBits .f32 0x3F800000#32 - (shift M s x - Ideal.liftRound Int.floor (shift M s x)) * Ideal.ofBits .f32 0x3F000000#32)
    * Ideal.pow (Ideal.ofBits .f32 0x40000000#32) (Ideal.ofBits .f32 0x41A00000#32 - Ideal.liftRound Int.floor (shift M s x))

/-- The bit pattern's number is whole and a normal number's. -/
def OnGrid (w : EReal) : Prop :=
  Ideal.liftRound Int.floor w = w ∧ Ideal.ofBits .f32 0x4C600000#32 ≤ w ∧ w < Ideal.ofBits .f32 0x4EFF0000#32
/-- The sum is above the bound `l`. -/
def Flushed (l : EReal) (X : A.Idx → EReal) (s : EReal) : Prop := l < (∑ i, ePre (topR X s) s (X i)) * base s

/-! ## The precondition, operation by operation -/

abbrev wideP {α : Type} (v : B.Idx → α) : A.Idx → α :=
  broadcastInDim S64x12x197x197 ![0, 1, 2, 3] bcast_S1x1x1x1_S64x12x197x197_0_1_2_3 (broadcastInDim S1x1x1x1 ![3] bcast_S1_S1x1x1x1_3 v)
abbrev fillP {α : Type} (v : D.Idx → α) : A.Idx → α := broadcastInDim S64x12x197x197 ![] bcast_S_S64x12x197x197 v
abbrev oneP {α : Type} (v : D.Idx → α) : B.Idx → α := broadcastInDim S1 ![] bcast_S_S1 v

def yP (x : FVec Ideal A .f32) (s : FVec Ideal B .f32) : FVec Ideal A .f32 := Host.divf x (wideP s)
def topP (x : FVec Ideal A .f32) (s : FVec Ideal B .f32) : FVec Ideal D .f32 :=
  Host.reduce FloatOps.maximumf (yP x s) (constant S_ .f32 0xFF800000#32) reducesTo_S64x12x197x197_S_d0_1_2_3 h_S_
def baseP (s : FVec Ideal B .f32) : FVec Ideal B .f32 := Host.roundeven (Host.divf (oneP (constant S_ .f32 0x3F800000#32)) s)
def distP (x : FVec Ideal A .f32) (s : FVec Ideal B .f32) : FVec Ideal A .f32 :=
  mulf (subf (fillP (topP x s)) (yP x s)) (fillP (constant S_ .f32 0x3FB80000#32))
def shiftP (x : FVec Ideal A .f32) (s : FVec Ideal B .f32) : FVec Ideal A .f32 :=
  Host.divf (distP x s) (wideP (baseP s))
def bitsP (x : FVec Ideal A .f32) (s : FVec Ideal B .f32) : FVec Ideal A .f32 :=
  mulf (subf (fillP (constant S_ .f32 0x43130000#32)) (shiftP x s)) (fillP (constant S_ .f32 0x4B000000#32))
def gridP (x : FVec Ideal A .f32) (s : FVec Ideal B .f32) : IVec A 1 :=
  andi (andi (cmpf .oeq (Host.floor (bitsP x s)) (bitsP x s)) (cmpf .oge (bitsP x s) (fillP (constant S_ .f32 0x4C600000#32))))
    (cmpf .olt (bitsP x s) (fillP (constant S_ .f32 0x4EFF0000#32)))
def eP (x : FVec Ideal A .f32) (s : FVec Ideal B .f32) : FVec Ideal A .f32 :=
  mulf (subf (fillP (constant S_ .f32 0x3F800000#32)) (mulf (subf (shiftP x s) (Host.floor (shiftP x s))) (fillP (constant S_ .f32 0x3F000000#32))))
    (Host.powf (fillP (constant S_ .f32 0x40000000#32)) (subf (fillP (constant S_ .f32 0x41A00000#32)) (Host.floor (shiftP x s))))
def sumP (x : FVec Ideal A .f32) (s : FVec Ideal B .f32) : FVec Ideal D .f32 :=
  Host.reduceAdd (eP x s) (constant S_ .f32 0x00000000#32) reducesTo_S64x12x197x197_S_d0_1_2_3 h_S_
def flushedP (x : FVec Ideal A .f32) (s : FVec Ideal B .f32) : IVec B 1 :=
  cmpf .ogt (mulf (oneP (sumP x s)) (baseP s))
    (oneP (constant S_ .f32 0x4E800001#32))
def finiteP (x : FVec Ideal A .f32) (s : FVec Ideal B .f32) : IVec D 1 := cmpf .olt (Host.absf (topP x s)) (constant S_ .f32 0x7F800000#32)
def zeroP (s : FVec Ideal B .f32) : IVec B 1 := cmpf .oeq s (oneP (constant S_ .f32 0x00000000#32))

variable (x : FVec Ideal A .f32) (s : FVec Ideal B .f32)

theorem fn_eq : fn (F := Ideal) x s
    = ori (wideP (ori (zeroP s) (zeroP (baseP s)))) (andi (fillP (finiteP x s)) (ori (gridP x s) (wideP (flushedP x s)))) := by
  unfold fn fn_part1 fn_part2 fn_part3 fn_round gridP flushedP sumP eP bitsP shiftP distP topP yP baseP finiteP zeroP
  rfl

theorem widep_eq {α : Type} (v : B.Idx → α) (i : A.Idx) : wideP v i = v (ix1 (0 : Fin 1)) := wide_apply v _ _ i

theorem fillP_eq {α : Type} (v : D.Idx → α) (i : A.Idx) : fillP v i = v (fun a => a.elim0) := congrArg v (funext fun a => a.elim0)
theorem oneP_eq {α : Type} (v : D.Idx → α) (i : B.Idx) : oneP v i = v (fun a => a.elim0) := congrArg v (funext fun a => a.elim0)

theorem baseP_eq : baseP s (ix1 (0 : Fin 1)) = base (s (ix1 (0 : Fin 1))) := rfl

theorem yP_eq : yP x s = fun i => Ideal.div (x i) (s (ix1 (0 : Fin 1))) := funext fun i => by
  show Ideal.div (x i) (wideP s i) = _
  rw [widep_eq]

theorem topP_eq (j : D.Idx) : topP x s j = topR x (s (ix1 (0 : Fin 1))) := by
  unfold topP topR
  rw [hostMax_apply _ _ _ _ ofBits_neg_inf, yP_eq]

/-- A difference times a factor, at a cell. -/
theorem diff_mul (a b c : FVec Ideal A .f32) (i : A.Idx) : mulf (subf a b) c i = (a i - b i) * c i := rfl

theorem distP_eq (i : A.Idx) : distP x s i
    = (topR x (s (ix1 (0 : Fin 1))) - Ideal.div (x i) (s (ix1 (0 : Fin 1)))) * Ideal.ofBits .f32 0x3FB80000#32 := by
  unfold distP
  refine (diff_mul _ _ _ i).trans ?_
  rw [fillP_eq, topP_eq, yP_eq, fillP_eq]
  rfl

theorem shiftP_eq (i : A.Idx) : shiftP x s i = shift (topR x (s (ix1 (0 : Fin 1)))) (s (ix1 (0 : Fin 1))) (x i) := by
  show Ideal.div (distP x s i) (wideP (baseP s) i) = _
  rw [distP_eq, widep_eq, baseP_eq]
  unfold shift
  rfl

theorem bitsP_eq (i : A.Idx) : bitsP x s i = bits (topR x (s (ix1 (0 : Fin 1)))) (s (ix1 (0 : Fin 1))) (x i) := by
  show (Ideal.ofBits .f32 0x43130000#32 - shiftP x s i) * Ideal.ofBits .f32 0x4B000000#32 = _
  rw [shiftP_eq]
  rfl

theorem eP_eq : eP x s = fun i => ePre (topR x (s (ix1 (0 : Fin 1)))) (s (ix1 (0 : Fin 1))) (x i) := funext fun i => by
  show (Ideal.ofBits .f32 0x3F800000#32 - (shiftP x s i - Ideal.liftRound Int.floor (shiftP x s i)) * Ideal.ofBits .f32 0x3F000000#32)
    * Ideal.pow (Ideal.ofBits .f32 0x40000000#32) (Ideal.ofBits .f32 0x41A00000#32 - Ideal.liftRound Int.floor (shiftP x s i)) = _
  rw [shiftP_eq]
  rfl

theorem sumP_eq (j : D.Idx) : sumP x s j = ∑ i, ePre (topR x (s (ix1 (0 : Fin 1)))) (s (ix1 (0 : Fin 1))) (x i) := by
  unfold sumP
  rw [hostSum_apply, eP_eq]

/-- A conjunction of bits is one exactly when both are. -/
theorem and_one (a b : BitVec 1) : a &&& b = 1#1 ↔ a = 1#1 ∧ b = 1#1 := by revert a b; decide
/-- A disjunction of bits is one exactly when either is. -/
theorem or_one (a b : BitVec 1) : a ||| b = 1#1 ↔ a = 1#1 ∨ b = 1#1 := by revert a b; decide
theorem bool_one (b : Bool) : BitVec.ofBool b = 1#1 ↔ b = true := by cases b <;> decide

theorem gridP_one (i : A.Idx) : gridP x s i = 1#1 ↔ OnGrid (bits (topR x (s (ix1 (0 : Fin 1)))) (s (ix1 (0 : Fin 1))) (x i)) := by
  show (BitVec.ofBool (decide (Ideal.liftRound Int.floor (bitsP x s i) = bitsP x s i)) &&& BitVec.ofBool (decide (Ideal.ofBits .f32 0x4C600000#32 ≤ bitsP x s i)))
    &&& BitVec.ofBool (decide (bitsP x s i < Ideal.ofBits .f32 0x4EFF0000#32)) = 1#1 ↔ _
  rw [and_one, and_one, bool_one, bool_one, bool_one, decide_eq_true_iff, decide_eq_true_iff, decide_eq_true_iff, bitsP_eq, and_assoc]
  rfl

theorem flushedP_one : flushedP x s (ix1 (0 : Fin 1)) = 1#1 ↔ Flushed (Ideal.ofBits .f32 0x4E800001#32) x (s (ix1 (0 : Fin 1))) := by
  show BitVec.ofBool (decide (Ideal.ofBits .f32 0x4E800001#32
    < oneP (sumP x s) (ix1 (0 : Fin 1)) * baseP s (ix1 (0 : Fin 1)))) = 1#1 ↔ _
  rw [bool_one, decide_eq_true_iff, oneP_eq, sumP_eq, baseP_eq]
  rfl

/-- A magnitude compared with a bound, at a cell. -/
theorem abs_lt (a b : FVec Ideal D .f32) (j : D.Idx) : cmpf .olt (Host.absf a) b j = BitVec.ofBool (decide (max (a j) (-a j) < b j)) := rfl

theorem finiteP_one (j : D.Idx) : finiteP x s j = 1#1
    ↔ max (topR x (s (ix1 (0 : Fin 1)))) (-topR x (s (ix1 (0 : Fin 1)))) < Ideal.ofBits .f32 0x7F800000#32 := by
  unfold finiteP
  rw [abs_lt, bool_one, decide_eq_true_iff, topP_eq]
  rfl

theorem zeroP_one : zeroP s (ix1 (0 : Fin 1)) = 1#1 ↔ s (ix1 (0 : Fin 1)) = 0 := by
  show BitVec.ofBool (decide (s (ix1 (0 : Fin 1)) = Ideal.ofBits .f32 0x00000000#32)) = 1#1 ↔ _
  rw [bool_one, decide_eq_true_iff, Ideal.ofBits_zero_f32]

/-- What the precondition says: the scale or the base zero; or the largest cell finite, and either every cell on the grid or the
    sum above `2^30 (1 + 2^-23)`. -/
theorem pre_facts (h : fn (F := Ideal) x s = fun _ => 1#1) :
    (s (ix1 (0 : Fin 1)) = 0 ∨ base (s (ix1 (0 : Fin 1))) = 0)
      ∨ max (topR x (s (ix1 (0 : Fin 1)))) (-topR x (s (ix1 (0 : Fin 1)))) < Ideal.ofBits .f32 0x7F800000#32
        ∧ ((∀ i, OnGrid (bits (topR x (s (ix1 (0 : Fin 1)))) (s (ix1 (0 : Fin 1))) (x i))) ∨ Flushed (Ideal.ofBits .f32 0x4E800001#32) x (s (ix1 (0 : Fin 1)))) := by
  have h' (i : A.Idx) : (s (ix1 (0 : Fin 1)) = 0 ∨ base (s (ix1 (0 : Fin 1))) = 0)
      ∨ max (topR x (s (ix1 (0 : Fin 1)))) (-topR x (s (ix1 (0 : Fin 1)))) < Ideal.ofBits .f32 0x7F800000#32
        ∧ (OnGrid (bits (topR x (s (ix1 (0 : Fin 1)))) (s (ix1 (0 : Fin 1))) (x i)) ∨ Flushed (Ideal.ofBits .f32 0x4E800001#32) x (s (ix1 (0 : Fin 1)))) := by
    have e := congrFun ((fn_eq x s).symm.trans h) i
    change wideP (ori (zeroP s) (zeroP (baseP s))) i ||| (fillP (finiteP x s) i &&& (gridP x s i ||| wideP (flushedP x s) i)) = 1#1 at e
    rw [widep_eq, widep_eq, fillP_eq, or_one, and_one, or_one, finiteP_one, gridP_one, flushedP_one] at e
    change zeroP s (ix1 (0 : Fin 1)) ||| zeroP (baseP s) (ix1 (0 : Fin 1)) = 1#1 ∨ _ at e
    rw [or_one, zeroP_one, zeroP_one, baseP_eq] at e
    exact e
  have i0 : A.Idx := ix4 (0 : Fin 64) (0 : Fin 12) (0 : Fin 197) (0 : Fin 197)
  by_cases hz : s (ix1 (0 : Fin 1)) = 0 ∨ base (s (ix1 (0 : Fin 1))) = 0
  · exact .inl hz
  · have h'' := fun i => (h' i).resolve_left hz
    refine .inr ⟨(h'' i0).1, ?_⟩
    by_cases hf : Flushed (Ideal.ofBits .f32 0x4E800001#32) x (s (ix1 (0 : Fin 1)))
    · exact .inr hf
    · exact .inl fun i => (h'' i).2.resolve_right hf

end Cert.Shiftmax

end
-- ==== Proof.Exact.Pre.lean ====
/- The second precondition: every number of the bits finite and at least the clamp, or the reference's sum above `2^30`. -/
module

public import proofs.«01_k».proof.Proof.Value.Pre
public import proofs.«01_k».proof.Pre_in_range_or_flushed

@[expose] public section

set_option maxRecDepth 16384

noncomputable section

namespace Cert.Shiftmax

open Idealize.ShloMosaic
/-- The side conditions of the precondition's operations: the reference's own. -/
instance rangeFacts : Cert.Pre_in_range_or_flushed.Facts where
  bcast_S1_S1x1x1x1_3 := Cert.ReferenceIdeal.Gen.bcast_S1_S1x1x1x1_3
  bcast_S1x1x1x1_S64x12x197x197_0_1_2_3 := Cert.ReferenceIdeal.Gen.bcast_S1x1x1x1_S64x12x197x197_0_1_2_3
  bcast_S_S1 := Cert.ReferenceIdeal.Gen.bcast_S_S1
  reducesTo_S64x12x197x197_S_d0_1_2_3 := Cert.ReferenceIdeal.Gen.reducesTo_S64x12x197x197_S_d0_1_2_3
  h_S_ := Cert.ReferenceIdeal.Gen.h_S_
  bcast_S_S64x12x197x197 := Cert.ReferenceIdeal.Gen.bcast_S_S64x12x197x197

namespace Exact

/-- The number of the bits is finite and at least the clamp. -/
def InRange (w : EReal) : Prop := Ideal.ofBits .f32 0x4C600000#32 ≤ w ∧ w < Ideal.ofBits .f32 0x7F800000#32

def rangeP (x : FVec Ideal A .f32) (s : FVec Ideal B .f32) : IVec A 1 :=
  andi (cmpf .oge (bitsP x s) (fillP (constant D .f32 0x4C600000#32))) (cmpf .olt (bitsP x s) (fillP (constant D .f32 0x7F800000#32)))
def flushP (x : FVec Ideal A .f32) (s : FVec Ideal B .f32) : IVec B 1 :=
  cmpf .ogt (mulf (oneP (sumP x s)) (baseP s)) (oneP (constant D .f32 0x4E800000#32))

variable (x : FVec Ideal A .f32) (s : FVec Ideal B .f32)

section Whole

open Cert.Pre_in_range_or_flushed

theorem fn_eq : fn (F := Ideal) x s
    = ori (wideP (ori (zeroP s) (zeroP (baseP s)))) (andi (fillP (finiteP x s)) (ori (rangeP x s) (wideP (flushP x s)))) := by
  unfold fn fn_part1 fn_part2 fn_round rangeP flushP sumP eP bitsP shiftP distP topP yP baseP finiteP zeroP
  rfl

end Whole

theorem rangeP_one (i : A.Idx) : rangeP x s i = 1#1 ↔ InRange (bits (topR x (s (ix1 (0 : Fin 1)))) (s (ix1 (0 : Fin 1))) (x i)) := by
  show BitVec.ofBool (decide (Ideal.ofBits .f32 0x4C600000#32 ≤ bitsP x s i)) &&& BitVec.ofBool (decide (bitsP x s i < Ideal.ofBits .f32 0x7F800000#32))
    = 1#1 ↔ _
  rw [and_one, bool_one, bool_one, decide_eq_true_iff, decide_eq_true_iff, bitsP_eq]
  rfl

theorem flushP_one : flushP x s (ix1 (0 : Fin 1)) = 1#1 ↔ Flushed (Ideal.ofBits .f32 0x4E800000#32) x (s (ix1 (0 : Fin 1))) := by
  show BitVec.ofBool (decide (Ideal.ofBits .f32 0x4E800000#32
    < oneP (sumP x s) (ix1 (0 : Fin 1)) * baseP s (ix1 (0 : Fin 1)))) = 1#1 ↔ _
  rw [bool_one, decide_eq_true_iff, oneP_eq, sumP_eq, baseP_eq]
  rfl

/-- What the second precondition says. -/
theorem pre_facts (h : Cert.Pre_in_range_or_flushed.fn (F := Ideal) x s = fun _ => 1#1) :
    (s (ix1 (0 : Fin 1)) = 0 ∨ base (s (ix1 (0 : Fin 1))) = 0)
      ∨ max (topR x (s (ix1 (0 : Fin 1)))) (-topR x (s (ix1 (0 : Fin 1)))) < Ideal.ofBits .f32 0x7F800000#32
        ∧ ((∀ i, InRange (bits (topR x (s (ix1 (0 : Fin 1)))) (s (ix1 (0 : Fin 1))) (x i)))
          ∨ Flushed (Ideal.ofBits .f32 0x4E800000#32) x (s (ix1 (0 : Fin 1)))) := by
  have h' (i : A.Idx) : (s (ix1 (0 : Fin 1)) = 0 ∨ base (s (ix1 (0 : Fin 1))) = 0)
      ∨ max (topR x (s (ix1 (0 : Fin 1)))) (-topR x (s (ix1 (0 : Fin 1)))) < Ideal.ofBits .f32 0x7F800000#32
        ∧ (InRange (bits (topR x (s (ix1 (0 : Fin 1)))) (s (ix1 (0 : Fin 1))) (x i))
          ∨ Flushed (Ideal.ofBits .f32 0x4E800000#32) x (s (ix1 (0 : Fin 1)))) := by
    have e := congrFun ((fn_eq x s).symm.trans h) i
    change wideP (ori (zeroP s) (zeroP (baseP s))) i ||| (fillP (finiteP x s) i &&& (rangeP x s i ||| wideP (flushP x s) i)) = 1#1 at e
    rw [widep_eq, widep_eq, fillP_eq, or_one, and_one, or_one, finiteP_one, rangeP_one, flushP_one] at e
    change zeroP s (ix1 (0 : Fin 1)) ||| zeroP (baseP s) (ix1 (0 : Fin 1)) = 1#1 ∨ _ at e
    rw [or_one, zeroP_one, zeroP_one, baseP_eq] at e
    exact e
  have i0 : A.Idx := ix4 (0 : Fin 64) (0 : Fin 12) (0 : Fin 197) (0 : Fin 197)
  by_cases hz : s (ix1 (0 : Fin 1)) = 0 ∨ base (s (ix1 (0 : Fin 1))) = 0
  · exact .inl hz
  · have h'' := fun i => (h' i).resolve_left hz
    refine .inr ⟨(h'' i0).1, ?_⟩
    by_cases hf : Flushed (Ideal.ofBits .f32 0x4E800000#32) x (s (ix1 (0 : Fin 1)))
    · exact .inr hf
    · exact .inl fun i => (h'' i).2.resolve_right hf

end Exact

end Cert.Shiftmax

end
-- ==== Proof.Frames.lean ====
/- The claims that say nothing of a value: both kernels, their idealizations and the reference run and end as they must, and the
   idealizations' one rewrite is what it says. -/
module

public import proofs.«01_k».proof.Defs
public import proofs.«01_k».proof.Proof.Kernel.Frame
public import proofs.«01_k».proof.Proof.KernelIdeal.Frame
public import proofs.«01_k».proof.Proof.Gen.ReferenceIdeal.Run
public import proofs.«01_k».proof.Proof.Kernel2.Frame
public import proofs.«01_k».proof.Proof.Kernel2Ideal.Frame
public import proofs.«01_k».proof.Proof.Value.Pre
public import proofs.«01_k».proof.Proof.Exact.Pre
public import Idealize.ShloMosaic.Lib.Quiescent

@[expose] public section

noncomputable section

namespace Cert.Shiftmax

open Idealize.ShloMosaic Idealize.ShloMosaic.TcCoe Idealize.SL.Sem

/-- The kernel runs and ends with its arguments unchanged and every counter at zero. -/
theorem frame_kernel : Cert.quiescent_Kernel := fun m ρ _ => Cert.Kernel.Shift.frame (F := Bits) m ρ

/-- So does its idealization. -/
theorem frame_ideal : Cert.quiescent_KernelIdeal := fun m ρ _ => Cert.KernelIdeal.Shift.frame (F := Ideal) m ρ

/-- So does the reference, which has no counter. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Under the precondition as without it. -/
theorem frame_ideal_pre : Cert.quiescent_KernelIdeal_pre_on_grid_or_flushed := fun m ρ _ => frame_ideal m ρ trivial

/-- Under the precondition as without it. -/
theorem frame_reference_pre : Cert.quiescent_ReferenceIdeal_pre_on_grid_or_flushed := fun m ρ _ => frame_reference m ρ trivial

/-- The one rewritten constant: the start of the running maximum is named and denotes minus infinity. -/
theorem preserves : Cert.preserves_Kernel_KernelIdeal :=
  IdealRules.named_const.statement Cert.KernelIdeal.κ "neg_big" .f32 0xFF61B1E6#32 ⊥ rfl

/-- The kernel without its rounding runs and ends likewise. -/
theorem frame_kernel2 : Cert.quiescent_Kernel2 := fun m ρ _ => Cert.Kernel2.Shift.frame (F := Bits) m ρ

/-- So does its idealization. -/
theorem frame_ideal2 : Cert.quiescent_Kernel2Ideal := fun m ρ _ => Cert.Kernel2Ideal.Shift.frame (F := Ideal) m ρ

/-- Under the second precondition as without it. -/
theorem frame_ideal2_pre : Cert.quiescent_Kernel2Ideal_pre_in_range_or_flushed := fun m ρ _ => frame_ideal2 m ρ trivial

/-- Under the second precondition as without it. -/
theorem frame_reference_pre2 : Cert.quiescent_ReferenceIdeal_pre_in_range_or_flushed := fun m ρ _ => frame_reference m ρ trivial

/-- The same constant is named in the second kernel. -/
theorem preserves2 : Cert.preserves_Kernel2_Kernel2Ideal :=
  IdealRules.named_const.statement Cert.Kernel2Ideal.κ "neg_big" .f32 0xFF61B1E6#32 ⊥ rfl

end Cert.Shiftmax

end
-- ==== Proof.Value.Totals.lean ====
/- The running maximum and the running sum of the kernel, closed: over all twelve blocks they are the maximum and the sum over
   every cell of the input. -/
module

public import proofs.«01_k».proof.Proof.Value.Entry

@[expose] public section

set_option maxRecDepth 16384

noncomputable section

namespace Cert.Shiftmax

open Cert.KernelIdeal Cert.KernelIdeal.Gen Cert.KernelIdeal.Shift
open Idealize.ShloMosaic Idealize.ShloMosaic.TcCoe

/-- The cells of the input, split into the twelve blocks. -/
def blocks : Fin 12 × S1x197x64x197.Idx ≃ S64x12x197x197.Idx where
  toFun p := emb p.1 p.2
  invFun i := (i 1, ix4 (0 : Fin 1) (i 2 : Fin 197) (i 0 : Fin 64) (i 3 : Fin 197))
  left_inv p := by
    refine Prod.ext rfl (funext fun a => ?_)
    match a with
    | ⟨0, _⟩ => exact (Subsingleton.elim (α := Fin 1) _ _)
    | ⟨1, _⟩ => rfl
    | ⟨2, _⟩ => rfl
    | ⟨3, _⟩ => rfl
  right_inv i := funext fun a => by
    match a with
    | ⟨0, _⟩ => rfl
    | ⟨1, _⟩ => rfl
    | ⟨2, _⟩ => rfl
    | ⟨3, _⟩ => rfl

/-- Block number `i`. -/
def bn (i : ℕ) : Fin 12 := ⟨i % 12, Nat.mod_lt i (by decide)⟩

/-- A sum over the blocks is a sum over the cells. -/
theorem sum_blocks (f : S64x12x197x197.Idx → EReal) :
    (∑ i ∈ Finset.range 12, ∑ k : S1x197x64x197.Idx, f (emb (bn i) k)) = ∑ i, f i := by
  rw [Finset.sum_range (fun i => ∑ k : S1x197x64x197.Idx, f (emb (bn i) k)), ← Equiv.sum_comp blocks f, Fintype.sum_prod_type]
  refine Finset.sum_congr rfl fun i _ => Finset.sum_congr rfl fun k _ => ?_
  have : bn i.val = i := Fin.ext (Nat.mod_eq_of_lt i.isLt)
  rw [this]; rfl

/-- A maximum over the blocks is a maximum over the cells. -/
theorem sup_blocks (f : S64x12x197x197.Idx → EReal) :
    ((Finset.range 12).sup fun i => Finset.univ.sup fun k : S1x197x64x197.Idx => f (emb (bn i) k)) = Finset.univ.sup f := by
  apply le_antisymm
  · exact Finset.sup_le fun i _ => Finset.sup_le fun k _ => Finset.le_sup (f := f) (Finset.mem_univ _)
  · refine Finset.sup_le fun i _ => ?_
    obtain ⟨p, rfl⟩ := blocks.surjective i
    have hb : bn p.1.val = p.1 := Fin.ext (Nat.mod_eq_of_lt p.1.isLt)
    refine le_trans ?_ (Finset.le_sup (f := fun i => Finset.univ.sup fun k : S1x197x64x197.Idx => f (emb (bn i) k)) (Finset.mem_range.mpr p.1.isLt))
    have := Finset.le_sup (f := fun k : S1x197x64x197.Idx => f (emb p.1 k)) (Finset.mem_univ p.2)
    rw [hb]
    exact this

variable (m : (ℓ : Loc nD τ sig) → Buf (Elt Ideal) ℓ)

theorem sc_0 (c : Dev nD) (t : Fin cfg0.N) : sc (F := Ideal) (scb (F := Ideal) m c t) 0 = inv (S m c) := by
  rw [scb_apply, V_v11]; rfl
theorem sc_1 (c : Dev nD) (t : Fin cfg0.N) : sc (F := Ideal) (scb (F := Ideal) m c t) 1 = base (S m c) := by
  rw [scb_apply, V_v11]; rfl
theorem sc_2 (c : Dev nD) (t : Fin cfg0.N) : sc (F := Ideal) (scb (F := Ideal) m c t) 2 = slope (S m c) * inv (S m c) := by
  rw [scb_apply, V_v11]; rfl
theorem sc_3 (c : Dev nD) (t : Fin cfg0.N) : sc (F := Ideal) (scb (F := Ideal) m c t) 3 = slope (S m c) := by
  rw [scb_apply, V_v11]; rfl
theorem sc_4 (c : Dev nD) (t : Fin cfg0.N) : sc (F := Ideal) (scb (F := Ideal) m c t) 4 = Ideal.ofBits .f32 0x30800000#32 * base (S m c) := by
  rw [scb_apply, V_v11]; rfl

/-- The block at point `t`, as cells of the input. -/
theorem xb_eq (c : Dev nD) (t : Fin cfg0.N) (n : ℕ) (hn : n % 12 = t.val % 12) : xb (F := Ideal) m c t = fun k => X m c (emb (bn n) k) :=
  funext fun k => xb_apply m c t (bn n) hn k

/-- The largest of the scaled cells of block `i`. -/
def blockMax (c : Dev nD) (i : ℕ) : EReal := Finset.univ.sup fun k : S1x197x64x197.Idx => X m c (emb (bn i) k) * inv (S m c)

theorem maxF_closed (c : Dev nD) : ∀ n, n ≤ 11 → maxF (F := Ideal) m c n = fun _ => (Finset.range (n + 1)).sup (blockMax m c)
  | 0, _ => by
    funext j
    show k0_pay1 (F := Ideal) _ _ _ _ j = _
    rw [pay1_apply, sc_0, xb_eq m c (pt 0) 0 rfl, if_pos (first_one _ (co1 _) (co2 _))]
    rw [Finset.range_one, Finset.sup_singleton, max_eq_right bot_le]
    rfl
  | n + 1, h => by
    funext j
    have hv : (pt (n + 1)).val = n + 1 := Nat.mod_eq_of_lt (by omega)
    show k0_pay1 (F := Ideal) _ _ _ _ j = _
    rw [pay1_apply, sc_0, xb_eq m c (pt (n + 1)) (n + 1) (by rw [hv]), if_neg, maxF_closed c n (by omega), Finset.range_add_one (n := n + 1),
      Finset.sup_insert, max_comm]
    · rfl
    · rw [first_zero _ (by rw [co1, hv]; omega)]; decide

/-- The kernel's maximum: of every scaled cell. -/
def top (c : Dev nD) : EReal := Finset.univ.sup fun i : S64x12x197x197.Idx => X m c i * inv (S m c)

theorem maxF_total (c : Dev nD) : maxF (F := Ideal) m c 11 = fun _ => top m c := by
  rw [maxF_closed m c 11 le_rfl]
  funext _
  exact sup_blocks fun i => X m c i * inv (S m c)

/-- The kernel's power at a cell. -/
def pk (c : Dev nD) (i : S64x12x197x197.Idx) : EReal := asBits (line (top m c) (slope (S m c)) (slope (S m c) * inv (S m c)) (X m c i))

/-- The sum of the powers of block `i`. -/
def blockSum (c : Dev nD) (i : ℕ) : EReal := ∑ k : S1x197x64x197.Idx, pk m c (emb (bn i) k)

theorem sumF_closed (c : Dev nD) : ∀ n, n ≤ 11 → sumF (F := Ideal) m c n = fun _ => ∑ i ∈ Finset.range (n + 1), blockSum m c i
  | 0, _ => by
    funext j
    show k0_pay2 (F := Ideal) _ _ _ _ _ _ j = _
    rw [maxF_total, pay2_apply, sc_2, sc_3, xb_eq m c (pt 12) 0 rfl, if_pos (first_one _ (co1 _) (co2 _))]
    rw [Finset.sum_range_one, zero_add]
    rfl
  | n + 1, h => by
    funext j
    have hv : (pt (12 + (n + 1))).val = 12 + (n + 1) := Nat.mod_eq_of_lt (by omega)
    show k0_pay2 (F := Ideal) _ _ _ _ _ _ j = _
    rw [maxF_total, pay2_apply, sc_2, sc_3, xb_eq m c (pt (12 + (n + 1))) (n + 1) (by rw [hv]; omega), if_neg, sumF_closed c n (by omega),
      Finset.sum_range_succ _ (n + 1)]
    · rfl
    · rw [first_zero _ (by rw [co1, hv]; omega)]; decide

/-- The kernel's sum: of the powers at every cell. -/
def tot (c : Dev nD) : EReal := ∑ i : S64x12x197x197.Idx, pk m c i

theorem sumF_total (c : Dev nD) : sumF (F := Ideal) m c 11 = fun _ => tot m c := by
  rw [sumF_closed m c 11 le_rfl]
  funext _
  exact sum_blocks (pk m c)

/-- The kernel's factor: the floored quotient, brought to scale. -/
def factor (c : Dev nD) : EReal :=
  Ideal.liftRound Int.floor (Ideal.div (Ideal.ofBits .f32 0x4E800000#32) (tot m c * base (S m c))) * (Ideal.ofBits .f32 0x30800000#32 * base (S m c))

/-- The output block at a point of phase 2. -/
theorem outF_apply (c : Dev nD) (t : Fin cfg0.N) (n : Fin 12) (hn : n.val = t.val % 12) (k : S1x197x64x197.Idx) :
    outF (F := Ideal) m c t k = pk m c (emb n k) * factor m c := by
  show k0_pay3 (F := Ideal) _ _ _ _ _ _ _ k = _
  rw [maxF_total, sumF_total, pay3_apply, sc_1, sc_2, sc_3, sc_4, xb_apply m c t n hn k]
  rfl

end Cert.Shiftmax

end
-- ==== Proof.Value.Result.lean ====
/- What the kernel returns: at every cell of the input, the kernel's power there times its one factor. -/
module

public import proofs.«01_k».proof.Proof.Value.Totals
public import proofs.«01_k».proof.Proof.KernelIdeal.Frame
public import Idealize.ShloMosaic.Lib.Pipeline.Value
public import Idealize.ShloMosaic.Lib.Quiescent

@[expose] public section

set_option maxRecDepth 16384

noncomputable section

namespace Cert.Shiftmax

open Cert.KernelIdeal Cert.KernelIdeal.Gen Cert.KernelIdeal.Shift
open Idealize.ShloMosaic Idealize.ShloMosaic.TcCoe Idealize.SL.Sem

variable (m : (ℓ : Loc nD τ sig) → Buf (Elt Ideal) ℓ)

/-- The result in the kernel's own layout. -/
def laid (c : Dev nD) : S12x197x64x197.Idx → EReal := fun i =>
  pk m c (ix4 (i 2 : Fin 64) (i 0 : Fin 12) (i 1 : Fin 197) (i 3 : Fin 197)) * factor m c

/-- The result in the input's layout. -/
def returned (c : Dev nD) : S64x12x197x197.Idx → EReal := fun i => pk m c i * factor m c

/-- Where the output's block at a point of phase 2 starts. -/
theorem index2 (t : Fin cfg0.N) (h : 24 ≤ t.val) :
    win0_2.index t 0 = t.val % 12 ∧ win0_2.index t 1 = 0 ∧ win0_2.index t 2 = 0 ∧ win0_2.index t 3 = 0 := by
  have ht := lt36 t
  have e : (BitVec.ofNat 32 (grid0.coords t 0).val) = 2#32 := by rw [co0]; congr 1; omega
  refine ⟨?_, rfl, ?_, rfl⟩
  · show (Scalar.select (Scalar.cmpi .eq (BitVec.ofNat 32 (grid0.coords t 0).val) 2#32) (BitVec.ofNat 32 (grid0.coords t 1).val) 0#32).toNat = _
    rw [e]
    show (BitVec.ofNat 32 (grid0.coords t 1).val).toNat = _
    rw [co1, BitVec.toNat_ofNat]; omega
  · show (Scalar.select (Scalar.cmpi .eq (BitVec.ofNat 32 (grid0.coords t 0).val) 2#32) (BitVec.ofNat 32 (grid0.coords t 2).val) 0#32).toNat = _
    rw [e]
    show (BitVec.ofNat 32 (grid0.coords t 2).val).toNat = _
    rw [co2, BitVec.toNat_ofNat]; omega

/-- The input's cell that the output block's cell `k` at point `t` belongs to. -/
theorem out_emb (t : Fin cfg0.N) (h : 24 ≤ t.val) (k : S1x197x64x197.Idx) (e : S12x197x64x197.Idx)
    (he : ∀ a, (e a).val = (((cfg0.win 2).blk t).view.emb k a).val) :
    ix4 (e 2 : Fin 64) (e 0 : Fin 12) (e 1 : Fin 197) (e 3 : Fin 197) = emb (bn t.val) k := by
  obtain ⟨i0, i1, i2, i3⟩ := index2 t h
  have h0 : (k 0).val = 0 := by have : (k 0).val < 1 := (k 0).isLt; omega
  have e0 : (e 0).val = t.val % 12 := by
    rw [he 0]; show win0_2.index t 0 * 1 + 1 * (k 0).val = _; rw [i0, h0]; omega
  have e1 : (e 1).val = (k 1).val := by
    rw [he 1]; show win0_2.index t 1 * 197 + 1 * (k 1).val = _; rw [i1]; omega
  have e2 : (e 2).val = (k 2).val := by
    rw [he 2]; show win0_2.index t 2 * 64 + 1 * (k 2).val = _; rw [i2]; omega
  have e3 : (e 3).val = (k 3).val := by
    rw [he 3]; show win0_2.index t 3 * 197 + 1 * (k 3).val = _; rw [i3]; omega
  funext a
  match a with
  | ⟨0, _⟩ => exact Fin.ext e2
  | ⟨1, _⟩ => exact Fin.ext e0
  | ⟨2, _⟩ => exact Fin.ext e1
  | ⟨3, _⟩ => exact Fin.ext e3

/-- What a point of phase 2 writes back is its block of the result. -/
theorem flushed_out (c : Dev nD) (t : Fin cfg0.N) (hf : (cfg0.win 2).flush t = true) :
    (dats (F := Ideal) m 0 c).flushed 2 t = ((cfg0.win 2).blk t).view.read (Elt Ideal) (laid m c) := by
  have h := (flush_out t).mp hf
  show (cfg0.win 2).cut (grid0.coords t) ((dats (F := Ideal) m 0 c).after 2 t) = _
  rw [after0_2]
  funext k
  rw [View.read_apply]
  refine (outF_apply m c t (bn t.val) rfl k).trans ?_
  exact congrArg (fun e => pk m c e * factor m c) (out_emb t h k _ fun _ => rfl).symm

/-- The blocks of phase 2 cover the result. -/
theorem covered (i : S12x197x64x197.Idx) : ∃ t : Fin cfg0.N, (cfg0.win 2).flush t = true ∧ i ∈ ((cfg0.win 2).blk t).view.set := by
  have h0 : (i 0 : Nat) < 12 := (i 0).isLt
  have h1 : (i 1 : Nat) < 197 := (i 1).isLt
  have h2 : (i 2 : Nat) < 64 := (i 2).isLt
  have h3 : (i 3 : Nat) < 197 := (i 3).isLt
  have ht : (pt (24 + (i 0).val)).val = 24 + (i 0).val := Nat.mod_eq_of_lt (by omega)
  obtain ⟨i0, i1, i2, i3⟩ := index2 (pt (24 + (i 0).val)) (by omega)
  rw [ht] at i0
  generalize hp : pt (24 + (i 0).val) = p at *
  refine ⟨p, (flush_out p).mpr (by omega), ?_⟩
  show i ∈ ((View.whole main_v12).slice (win0_2.rect p)).set
  rw [View.set_slice_whole, Rect.mem_set_unit]
  intro a
  match a with
  | ⟨0, _⟩ => show win0_2.index p 0 * 1 ≤ (i 0 : Nat) ∧ (i 0 : Nat) < win0_2.index p 0 * 1 + 1
              rw [i0]; omega
  | ⟨1, _⟩ => show win0_2.index p 1 * 197 ≤ (i 1 : Nat) ∧ (i 1 : Nat) < win0_2.index p 1 * 197 + 197
              rw [i1]; omega
  | ⟨2, _⟩ => show win0_2.index p 2 * 64 ≤ (i 2 : Nat) ∧ (i 2 : Nat) < win0_2.index p 2 * 64 + 64
              rw [i2]; omega
  | ⟨3, _⟩ => show win0_2.index p 3 * 197 ≤ (i 3 : Nat) ∧ (i 3 : Nat) < win0_2.index p 3 * 197 + 197
              rw [i3]; omega

/-- The region's result array. -/
theorem final_out (c : Dev nD) : (dats (F := Ideal) m 0 c).arrAt 2 cfg0.N = laid m c :=
  (dats (F := Ideal) m 0 c).arrAt_eq_of_cover 2 (laid m c) (flushed_out m c) covered

/-- Each cell of the result, after the host's transpose, comes from this cell of the region's array. -/
theorem back_emb (i : S64x12x197x197.Idx) (b : Fin S64x12x197x197.rank) :
    ((ix4 (i 1 : Fin 12) (i 2 : Fin 197) (i 0 : Fin 64) (i 3 : Fin 197) : S12x197x64x197.Idx)
        ([2, 0, 1, 3] : List (Fin S12x197x64x197.rank))[b.cast transposes_S12x197x64x197_S64x12x197x197_2_0_1_3.2.1]).val = (i b).val := by
  match b with
  | ⟨0, _⟩ => rfl
  | ⟨1, _⟩ => rfl
  | ⟨2, _⟩ => rfl
  | ⟨3, _⟩ => rfl

/-- The region's arrays are distinct. -/
theorem arr_inj : Function.Injective (Pipeline.arrRef (cfgs 0).spec) := by decide

/-- The region's result, as the operations after it find it. -/
theorem found (c : Dev nD) :
    Pipeline.withArrays (cfgs 0).spec c (V0 m c) (fun w => (dats (F := Ideal) m 0 c).arrAt w (cfgs 0).N) (Proc.devRef .tc main_v12) = laid m c :=
  (Pipeline.withArrays_arr (cfgs 0).spec arr_inj c (V0 m c) _ 2).trans (final_out m c)

/-- The result in the kernel's layout, transposed back. -/
theorem back (c : Dev nD) :
    transpose S64x12x197x197 [2, 0, 1, 3] (laid m c) transposes_S12x197x64x197_S64x12x197x197_2_0_1_3 = returned m c := by
  funext i
  refine (transpose_apply [2, 0, 1, 3] (laid m c) transposes_S12x197x64x197_S64x12x197x197_2_0_1_3 i
    (ix4 (i 1 : Fin 12) (i 2 : Fin 197) (i 0 : Fin 64) (i 3 : Fin 197)) (back_emb i)).trans ?_
  unfold laid returned
  refine congrArg (fun e => pk m c e * factor m c) (funext fun a => ?_)
  match a with
  | ⟨0, _⟩ => rfl
  | ⟨1, _⟩ => rfl
  | ⟨2, _⟩ => rfl
  | ⟨3, _⟩ => rfl

/-- The host's result, transposed back. -/
theorem W_v13 (c : Dev nD) : Pipeline.afterTail₀ cfgs (dats (F := Ideal) m) 0 (V0 m) [hostOps1] c main_v13 = returned m c := by
  unfold Pipeline.afterTail₀
  simp only [hostOps1, List.flatten_cons, List.flatten_nil, List.append_nil]
  rw [StableHlo.after_cons, StableHlo.after_nil, StableHlo.unary_result, found]
  exact back m c

/-- The kernel's run: its result, its arguments unchanged. -/
theorem run_kernel (ρ : Dev nD → PrngReg) : θ_run defs (onTc (τ := τ) (main (F := Ideal))) ⟨m, fun _ => 0, ρ⟩ (fun r => ∀ c : Dev nD,
      r.2.mem ((c.tc : Thread nD τ).loc main_v13) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans (W_v13 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.Shiftmax

end
-- ==== Proof.Value.Scalars.lean ====
/- Both programs at one cell, over the real numbers: the shift, the power and the number that the kernel rounds. -/
module

public import proofs.«01_k».proof.Proof.Value.Word
public import proofs.«01_k».proof.Proof.Value.Pre

@[expose] public section

noncomputable section

namespace Cert.Shiftmax

open Idealize.ShloMosaic

/-! ## The literals -/

theorem lit_1 : Ideal.ofBits .f32 0x3F800000#32 = ((1 : ℝ) : EReal) := by
  simp [Ideal.ofBits, Ideal.ieee, -EReal.coe_mul]; norm_num
theorem lit_slope : Ideal.ofBits .f32 0x3FB80000#32 = ((23 / 16 : ℝ) : EReal) := by
  simp [Ideal.ofBits, Ideal.ieee, -EReal.coe_mul]; norm_num
theorem lit_147 : Ideal.ofBits .f32 0x43130000#32 = ((147 : ℝ) : EReal) := by
  simp [Ideal.ofBits, Ideal.ieee, -EReal.coe_mul]; norm_num
theorem lit_2p23 : Ideal.ofBits .f32 0x4B000000#32 = ((8388608 : ℝ) : EReal) := by
  simp [Ideal.ofBits, Ideal.ieee, -EReal.coe_mul]
theorem lit_low : Ideal.ofBits .f32 0x4C600000#32 = ((58720256 : ℝ) : EReal) := by
  simp [Ideal.ofBits, Ideal.ieee, -EReal.coe_mul]; norm_num
theorem lit_high : Ideal.ofBits .f32 0x4EFF0000#32 = ((2139095040 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_20 : Ideal.ofBits .f32 0x41A00000#32 = ((20 : ℝ) : EReal) := by
  simp [Ideal.ofBits, Ideal.ieee, -EReal.coe_mul]; norm_num
theorem lit_2p30 : Ideal.ofBits .f32 0x4E800000#32 = ((1073741824 : ℝ) : EReal) := by
  simp [Ideal.ofBits, Ideal.ieee, -EReal.coe_mul]; norm_num
theorem lit_flush : Ideal.ofBits .f32 0x4E800001#32 = ((1073741952 : ℝ) : EReal) := by
  simp [Ideal.ofBits, Ideal.ieee, -EReal.coe_mul]; norm_num
theorem lit_2m23 : Ideal.ofBits .f32 0x34000000#32 = ((1 / 8388608 : ℝ) : EReal) := by
  simp [Ideal.ofBits, Ideal.ieee, -EReal.coe_mul]; norm_num
theorem lit_2m7 : Ideal.ofBits .f32 0x3C000000#32 = ((1 / 128 : ℝ) : EReal) := by
  simp [Ideal.ofBits, Ideal.ieee, -EReal.coe_mul]; norm_num
theorem lit_2m30 : Ideal.ofBits .f32 0x30800000#32 = ((1 / 1073741824 : ℝ) : EReal) := by
  simp [Ideal.ofBits, Ideal.ieee, -EReal.coe_mul]; norm_num
theorem lit_line : Ideal.ofBits .f32 0x4E930000#32 = ((1233125376 : ℝ) : EReal) := by
  simp [Ideal.ofBits, Ideal.ieee, -EReal.coe_mul]; norm_num
theorem lit_rise : Ideal.ofBits .f32 0x4B380000#32 = ((12058624 : ℝ) : EReal) := by
  simp [Ideal.ofBits, Ideal.ieee, -EReal.coe_mul]
theorem lit_inf : Ideal.ofBits .f32 0x7F800000#32 = ⊤ := by simp [Ideal.ofBits, Ideal.ieee]

/-! ## The scale -/

theorem div_real (x y : ℝ) (h : y ≠ 0) : Ideal.div (x : EReal) (y : EReal) = ((x / y : ℝ) : EReal) := by
  rw [Ideal.div_coe h, ← EReal.coe_mul, mul_one_div]

theorem inv_real (s : ℝ) (h : s ≠ 0) : inv (s : EReal) = ((1 / s : ℝ) : EReal) := by
  unfold inv; rw [lit_1, div_real _ _ h]

/-- The whole number next to one over the scale. -/
def whole (s : ℝ) : ℤ := Ideal.roundHalfEven (1 / s)

theorem base_real (s : ℝ) (h : s ≠ 0) : base (s : EReal) = ((whole s : ℝ) : EReal) := by
  unfold base whole; rw [inv_real s h]; rfl

theorem slope_real (s : ℝ) (h : s ≠ 0) (hb : (whole s : ℝ) ≠ 0) : slope (s : EReal) = ((12058624 / (whole s : ℝ) : ℝ) : EReal) := by
  unfold slope; rw [lit_rise, base_real s h, div_real _ _ hb]

/-- A scale whose inverse is zero has base zero. -/
theorem base_inf (s : EReal) (h : s ≠ 0) (hi : s⁻¹ = 0) : base s = 0 := by
  have h0 : inv s = ((0 : ℝ) : EReal) := by
    unfold inv Ideal.div; rw [if_neg h, hi, mul_zero]; rfl
  have h1 : (⌊(0 : ℝ)⌋ : ℝ) = 0 := by simp
  unfold base
  rw [h0]
  show ((Ideal.roundHalfEven 0 : ℝ) : EReal) = 0
  rw [round_whole h1]
  simp

/-- A scale with a base that is not zero is finite. -/
theorem scale_real (s : EReal) (h : base s ≠ 0) : ∃ r : ℝ, s = r := by
  induction s with
  | bot => exact absurd (base_inf ⊥ EReal.bot_ne_zero EReal.inv_bot) h
  | top => exact absurd (base_inf ⊤ EReal.top_ne_zero EReal.inv_top) h
  | coe r => exact ⟨r, rfl⟩

/-! ## One cell -/

/-- The shift of a cell. -/
def sh (M s x : ℝ) : ℝ := (M - x / s) * (23 / 16) / (whole s : ℝ)
/-- The power of a cell. -/
def ex (M s x : ℝ) : ℝ := pw (147 - sh M s x)

theorem ex_pos (M s x : ℝ) : 0 < ex M s x := pw_pos _

theorem floor_real (r : ℝ) : Ideal.liftRound Int.floor (r : EReal) = ((⌊r⌋ : ℝ) : EReal) := rfl

theorem pow_real (n : ℤ) : Ideal.pow ((2 : ℝ) : EReal) (((n : ℤ) : ℝ) : EReal) = (((2 : ℝ) ^ n : ℝ) : EReal) := by
  show ((Real.rpow 2 (n : ℝ) : ℝ) : EReal) = _
  exact congrArg _ (Real.rpow_intCast 2 n)

section Cell

variable (M s x : ℝ) (h : s ≠ 0) (hb : (whole s : ℝ) ≠ 0)
include h hb

theorem shift_real : shift (M : EReal) (s : EReal) (x : EReal) = ((sh M s x : ℝ) : EReal) := by
  unfold shift sh
  rw [div_real _ _ h, lit_slope, base_real s h, ← EReal.coe_sub, ← EReal.coe_mul, div_real _ _ hb]

theorem bits_real : bits (M : EReal) (s : EReal) (x : EReal) = (((147 - sh M s x) * 8388608 : ℝ) : EReal) := by
  unfold bits
  rw [shift_real M s x h hb, lit_147, lit_2p23, ← EReal.coe_sub, ← EReal.coe_mul]

theorem ePre_real : ePre (M : EReal) (s : EReal) (x : EReal) = ((ex M s x : ℝ) : EReal) := by
  unfold ePre ex
  rw [shift_real M s x h hb, lit_1, lit_half, lit_2, lit_20, floor_real, ← EReal.coe_sub, ← EReal.coe_mul, ← EReal.coe_sub, ← EReal.coe_sub,
    show (20 : ℝ) - (⌊sh M s x⌋ : ℝ) = ((20 - ⌊sh M s x⌋ : ℤ) : ℝ) by push_cast; rfl, pow_real, ← EReal.coe_mul, pw_eq]
  congr 2
  ring

theorem exR_real : exR (M : EReal) (s : EReal) (x : EReal) = (((whole s : ℝ) * ex M s x : ℝ) : EReal) := by
  have hip : ipR (M : EReal) (s : EReal) (x : EReal) = ((-(sh M s x * (whole s : ℝ)) : ℝ) : EReal) := by
    unfold ipR sh
    rw [div_real _ _ h, lit_slope, ← EReal.coe_sub, ← EReal.coe_mul]
    congr 1
    field_simp
    ring
  have hq : qR (M : EReal) (s : EReal) (x : EReal) = ((⌊sh M s x⌋ : ℝ) : EReal) := by
    unfold qR
    rw [hip, base_real s h, ← EReal.coe_neg, div_real _ _ (neg_ne_zero.mpr hb), neg_div_neg_eq, mul_div_cancel_right₀ _ hb, floor_real]
  unfold exR ex
  rw [hip, hq, base_real s h, lit_half, lit_2, lit_20, ← EReal.coe_mul, ← EReal.coe_add, ← EReal.coe_neg, ← EReal.coe_neg, ← EReal.coe_mul,
    ← EReal.coe_add, ← EReal.coe_sub, show (20 : ℝ) - (⌊sh M s x⌋ : ℝ) = ((20 - ⌊sh M s x⌋ : ℤ) : ℝ) by push_cast; rfl, pow_real, ← EReal.coe_mul, pw_eq]
  congr 1
  ring

/-- The kernel's line is the number that the precondition speaks of. -/
theorem line_real : line (M : EReal) (slope (s : EReal)) (slope (s : EReal) * inv (s : EReal)) (x : EReal)
    = (((147 - sh M s x) * 8388608 : ℝ) : EReal) := by
  unfold line sh
  rw [slope_real s h hb, inv_real s h, lit_line, ← EReal.coe_mul, ← EReal.coe_mul, ← EReal.coe_mul, ← EReal.coe_sub, ← EReal.coe_add]
  congr 1
  field_simp
  ring

end Cell

/-! ## The rounded number as a pattern -/

/-- A whole number in range keeps its value through the conversion to 32 bits. -/
theorem toInt_whole (n : ℤ) (lo : 0 ≤ n) (hi : n < 2139095040) : Ideal.fptosi 32 (((n : ℤ) : ℝ) : EReal) = BitVec.ofInt 32 n := by
  unfold Ideal.fptosi
  congr 1
  show max _ (min _ (if (0 : ℝ) ≤ (n : ℝ) then ⌊((n : ℤ) : ℝ)⌋ else ⌈((n : ℤ) : ℝ)⌉)) = n
  rw [Int.floor_intCast, Int.ceil_intCast, ite_self]
  norm_num
  omega

/-- The pattern of a number that is not too large: the power at the whole number next to it. -/
theorem asBits_real (w : ℝ) (n : ℤ) (hn : Ideal.roundHalfEven (max w 58720256) = n) (hi : n < 2139095040) :
    asBits (w : EReal) = ((pw ((n : ℝ) / 8388608) : ℝ) : EReal) := by
  have lo : 8388608 ≤ n := by
    have h1 := round_ge (max w 58720256)
    have h2 : (58720256 : ℝ) ≤ max w 58720256 := le_max_right _ _
    have h3 : (8388608 : ℝ) ≤ (n : ℝ) := by rw [← hn]; linarith
    exact_mod_cast h3
  unfold asBits
  rw [lit_low, ← EReal.coe_strictMono.monotone.map_max]
  show Ideal.ofBits .f32 (Ideal.fptosi 32 (((Ideal.roundHalfEven (max w 58720256) : ℤ) : ℝ) : EReal)) = _
  rw [hn, toInt_whole n (by omega) hi, ofBits_word n lo hi]

/-- On the grid nothing is lost. -/
theorem asBits_grid (w : ℝ) (hw : OnGrid (w : EReal)) : asBits (w : EReal) = ((pw (w / 8388608) : ℝ) : EReal) := by
  obtain ⟨h1, h2, h3⟩ := hw
  rw [floor_real, EReal.coe_eq_coe_iff] at h1
  rw [lit_low, EReal.coe_le_coe_iff] at h2
  rw [lit_high, EReal.coe_lt_coe_iff] at h3
  rw [asBits_real w ⌊w⌋ (by rw [max_eq_left h2]; exact round_whole h1) (by rw [← h1] at h3; exact_mod_cast h3), h1]

/-- At or below the top of the range a pattern falls short of the power by at most `2^-23` of it. -/
theorem asBits_low (w : ℝ) (hw : w ≤ 1233125376) :
    ∃ k : ℝ, asBits (w : EReal) = (k : EReal) ∧ 0 < k ∧ pw (w / 8388608) ≤ (1 + 1 / 8388608) * k := by
  refine ⟨_, asBits_real w _ rfl ?_, pw_pos _, ?_⟩
  · have h1 := round_le (max w 58720256)
    have h2 : max w 58720256 ≤ (1233125376 : ℝ) := max_le hw (by norm_num)
    have h3 : ((Ideal.roundHalfEven (max w 58720256) : ℤ) : ℝ) < 2139095040 := by linarith
    exact_mod_cast h3
  · have h := pw_near (v := (Ideal.roundHalfEven (max w 58720256) : ℝ) / 8388608) (d := 1 / 16777216) (by norm_num) (by norm_num)
    rw [show (1 : ℝ) + 2 * (1 / 16777216) = 1 + 1 / 8388608 by norm_num] at h
    refine le_trans (pw_mono ?_) h
    have h1 := round_ge (max w 58720256)
    have h2 : w ≤ max w 58720256 := le_max_left _ _
    rw [show (1 : ℝ) / 16777216 = (1 / 2) / 8388608 by norm_num, ← add_div]
    exact div_le_div_of_nonneg_right (by linarith) (by norm_num)

/-- The pattern of minus infinity is the clamp's. -/
theorem asBits_bot : asBits ⊥ = ((pw 7 : ℝ) : EReal) := by
  have h := asBits_real 58720256 58720256 (by rw [max_self]; exact (round_whole (by norm_num)).trans (by norm_num)) (by norm_num)
  unfold asBits at h ⊢
  rw [lit_low, max_self] at h
  rw [lit_low, max_eq_right bot_le, h]
  norm_num

end Cert.Shiftmax

end
-- ==== Proof.Value.Dull.lean ====
/- Scales without a base: where the scale is zero, or one over it rounds to zero, both results are zero, whatever the input. -/
module

public import proofs.«01_k».proof.Proof.Value.Scalars
public import proofs.«01_k».proof.Proof.Value.Totals

@[expose] public section

set_option maxRecDepth 16384

noncomputable section

namespace Cert.Shiftmax

open Idealize.ShloMosaic

/-- The kernel's result at a cell, from the input and the scale alone, where it takes the powers by `p`. -/
def outK (p : EReal → EReal) (X : A.Idx → EReal) (s : EReal) (i : A.Idx) : EReal :=
  p (line (Finset.univ.sup fun i => X i * inv s) (slope s) (slope s * inv s) (X i))
    * (Ideal.liftRound Int.floor (Ideal.div (Ideal.ofBits .f32 0x4E800000#32)
        ((∑ i, p (line (Finset.univ.sup fun i => X i * inv s) (slope s) (slope s * inv s) (X i))) * base s))
      * (Ideal.ofBits .f32 0x30800000#32 * base s))

instance cells : Nonempty A.Idx := ⟨ix4 (0 : Fin 64) (0 : Fin 12) (0 : Fin 197) (0 : Fin 197)⟩

/-- A finite sum of real numbers. -/
theorem sum_real {ι : Type} [Fintype ι] (f : ι → EReal) (g : ι → ℝ) (h : ∀ i, f i = (g i : EReal)) : ∑ i, f i = ((∑ i, g i : ℝ) : EReal) := by
  have hs : ∀ t : Finset ι, ∑ i ∈ t, f i = ((∑ i ∈ t, g i : ℝ) : EReal) := by
    classical
    intro t
    induction t using Finset.induction with
    | empty => simp
    | insert a t ha ih => rw [Finset.sum_insert ha, Finset.sum_insert ha, ih, h a, EReal.coe_add]
  exact hs _

/-- A sum with minus infinity in it. -/
theorem sum_bot {ι : Type} [Fintype ι] (f : ι → EReal) (j : ι) (h : f j = ⊥) : ∑ i, f i = ⊥ := by
  classical
  rw [← Finset.add_sum_erase _ _ (Finset.mem_univ j), h, EReal.bot_add]

theorem floor_zero : Ideal.liftRound Int.floor (0 : EReal) = 0 := by
  show ((⌊(0 : ℝ)⌋ : ℝ) : EReal) = 0
  simp

/-- A number over an infinity. -/
theorem div_inf (x y : EReal) (h : y = ⊤ ∨ y = ⊥) : Ideal.div x y = 0 := by
  unfold Ideal.div
  rcases h with rfl | rfl
  · rw [if_neg EReal.top_ne_zero, EReal.inv_top, mul_zero]
  · rw [if_neg EReal.bot_ne_zero, EReal.inv_bot, mul_zero]

/-- No scaled cell is above the largest. -/
theorem le_topR (X : A.Idx → EReal) (s : EReal) (i : A.Idx) : Ideal.div (X i) s ≤ topR X s :=
  Finset.le_sup (f := fun i => Ideal.div (X i) s) (Finset.mem_univ i)

/-! ## One over the scale rounds to zero -/

theorem ipR_nonpos (X : A.Idx → EReal) (s : EReal) (i : A.Idx) : ipR (topR X s) s (X i) ≤ 0 := by
  have h : Ideal.div (X i) s - topR X s ≤ 0 := by
    rw [sub_eq_add_neg]
    refine (add_le_add_left (le_topR X s i) _).trans ?_
    rw [← sub_eq_add_neg]
    exact EReal.sub_self_le_zero
  unfold ipR
  rw [lit_slope]
  exact EReal.mul_nonpos_iff.mpr (.inr ⟨h, by exact_mod_cast (by norm_num : (0 : ℝ) ≤ 23 / 16)⟩)

/-- The power is then minus infinity below the largest cell and zero at it. -/
theorem exR_flat (M s x : EReal) (hb : base s = 0) (h : ipR M s x ≤ 0) : exR M s x = ⊥ ∨ exR M s x = 0 := by
  have hq : qR M s x = ⊥ := by
    unfold qR Ideal.div
    rw [hb, neg_zero, if_pos rfl, if_neg (not_lt.mpr h)]
    rfl
  have hp : Ideal.pow (Ideal.ofBits .f32 0x40000000#32) (Ideal.ofBits .f32 0x41A00000#32 - ⊥) = ⊤ := by
    rw [lit_2, lit_20, EReal.coe_sub_bot]
    show (if (2 : ℝ) < 0 then (⊥ : EReal) else if (1 : ℝ) < 2 then ⊤ else if (2 : ℝ) = 1 then 1 else 0) = ⊤
    norm_num
  unfold exR
  rw [hq, hb, hp, mul_zero, add_zero, add_zero, neg_neg, lit_half]
  rcases h.eq_or_lt with e | l
  · right; rw [e, zero_mul, zero_mul]
  · left
    exact EReal.mul_top_of_neg (EReal.mul_neg_iff.mpr (.inr ⟨l, by exact_mod_cast (by norm_num : (0 : ℝ) < 1 / 2)⟩))

theorem outR_flat (X : A.Idx → EReal) (s : EReal) (hb : base s = 0) (i : A.Idx) : outR X s i = 0 := by
  have hx (i : A.Idx) := exR_flat (topR X s) s (X i) hb (ipR_nonpos X s i)
  unfold outR
  by_cases hj : ∃ j, exR (topR X s) s (X j) = ⊥
  · obtain ⟨j, hj⟩ := hj
    have hd : denR X s = ⊥ := sum_bot _ j hj
    rw [hd, div_inf _ _ (.inr rfl), floor_zero, zero_mul, zero_mul, zero_mul]
  · rw [(hx i).resolve_left fun e => hj ⟨i, e⟩, mul_zero, zero_mul, zero_mul]

theorem outK_flat (p : EReal → EReal) (X : A.Idx → EReal) (s : EReal) (hb : base s = 0) (i : A.Idx) : outK p X s i = 0 := by
  unfold outK
  rw [hb, mul_zero, mul_zero, mul_zero, mul_zero]

/-! ## The scale is zero -/

theorem inv_zero : inv 0 = ⊤ := by
  unfold inv Ideal.div
  rw [if_pos rfl, lit_1, if_pos (by exact_mod_cast one_pos)]

theorem base_zero : base 0 = ⊤ := by unfold base; rw [inv_zero]; rfl

theorem slope_zero : slope 0 = 0 := by unfold slope; rw [base_zero, div_inf _ _ (.inl rfl)]

theorem outK_zero (p : EReal → EReal) (k : ℝ) (hk : p ((1233125376 : ℝ) : EReal) = (k : EReal)) (hp : 0 < k) (X : A.Idx → EReal) (i : A.Idx) :
    outK p X 0 i = 0 := by
  have hl (M x : EReal) : p (line M (slope 0) (slope 0 * inv 0) x) = (k : EReal) := by
    unfold line
    rw [slope_zero, zero_mul, mul_zero, mul_zero, sub_zero, zero_add, lit_line, hk]
  have hs : 0 < ∑ _i : A.Idx, k := Finset.sum_pos (fun _ _ => hp) Finset.univ_nonempty
  unfold outK
  rw [hl, sum_real _ (fun _ => k) fun i => hl _ (X i), base_zero, EReal.coe_mul_top_of_pos hs, div_inf _ _ (.inl rfl), floor_zero, zero_mul, mul_zero]

theorem exR_zero (X : A.Idx → EReal) (i : A.Idx) : exR (topR X 0) 0 (X i) = ⊥ := by
  have hy : Ideal.div (X i) 0 - topR X 0 = ⊥ := by
    have hle := le_topR X 0 i
    unfold Ideal.div at hle ⊢
    rw [if_pos rfl] at hle ⊢
    split_ifs at hle ⊢
    · rw [top_le_iff.mp hle, EReal.sub_top]
    · rw [EReal.bot_sub]
  have hip : ipR (topR X 0) 0 (X i) = ⊥ := by
    unfold ipR
    rw [hy, lit_slope, EReal.bot_mul_coe_of_pos (by norm_num)]
  have hq : qR (topR X 0) 0 (X i) = 0 := by
    unfold qR
    rw [base_zero, EReal.neg_top, div_inf _ _ (.inr rfl), floor_zero]
  unfold exR
  rw [hip, hq, EReal.bot_add, neg_neg, lit_half, EReal.bot_mul_coe_of_pos (by norm_num), EReal.bot_add, sub_zero, lit_2, lit_20]
  have h := pow_real 20
  push_cast at h
  rw [h]
  exact EReal.bot_mul_coe_of_pos (by positivity)

theorem outR_zero (X : A.Idx → EReal) (i : A.Idx) : outR X 0 i = 0 := by
  have hd : denR X 0 = ⊥ := sum_bot _ i (exR_zero X i)
  unfold outR
  rw [hd, div_inf _ _ (.inr rfl), floor_zero, zero_mul, zero_mul, zero_mul]

end Cert.Shiftmax

end
-- ==== Proof.Value.Cell.lean ====
/- One cell of either program, finite or not, where the scale, its base and the largest cell are real: the reference's power as a
   real number `e`, the kernel's as a real number `k`, and how near they are. -/
module

public import proofs.«01_k».proof.Proof.Value.Dull

@[expose] public section

noncomputable section

namespace Cert.Shiftmax

open Idealize.ShloMosaic

/-- A finite number is real. -/
theorem real_of_lt (x : EReal) (h : max x (-x) < ⊤) : ∃ r : ℝ, x = r := by
  induction x with
  | bot => simp at h
  | top => simp at h
  | coe r => exact ⟨r, rfl⟩

/-- A number that isn't real. -/
def Endless (x : EReal) : Prop := x = ⊤ ∨ x = ⊥

theorem real_or_endless (x : EReal) : (∃ r : ℝ, x = r) ∨ Endless x := by
  induction x with
  | bot => exact .inr (.inr rfl)
  | top => exact .inr (.inl rfl)
  | coe r => exact .inl ⟨r, rfl⟩

theorem endless_mul (x : EReal) (r : ℝ) (hr : r ≠ 0) (h : Endless x) : Endless (x * (r : EReal)) := by
  rcases hr.lt_or_gt with l | l <;> rcases h with rfl | rfl
  · exact .inr (EReal.top_mul_coe_of_neg l)
  · exact .inl (EReal.bot_mul_coe_of_neg l)
  · exact .inl (EReal.top_mul_coe_of_pos l)
  · exact .inr (EReal.bot_mul_coe_of_pos l)

theorem endless_sub (r : ℝ) (x : EReal) (h : Endless x) : Endless ((r : EReal) - x) := by
  rcases h with rfl | rfl
  · exact .inr (EReal.sub_top _)
  · exact .inl (EReal.coe_sub_bot r)

/-- A way of taking the powers from the bits' numbers, `p`: it is the power itself where `Good` holds, and at or below the top of
    the range it is positive and falls short of the power by at most `d` of itself. -/
structure Near (p : EReal → EReal) (Good : EReal → Prop) (d : ℝ) : Prop where
  good : ∀ w, Good w → ∃ r : ℝ, w = (r : EReal) ∧ p w = ((pw (r / 8388608) : ℝ) : EReal)
  low : ∀ w : ℝ, w ≤ 1233125376 → ∃ k : ℝ, p (w : EReal) = (k : EReal) ∧ 0 < k ∧ pw (w / 8388608) ≤ (1 + d) * k
  bot : ∃ k : ℝ, p ⊥ = (k : EReal) ∧ 0 < k

theorem pow_top : Ideal.pow (Ideal.ofBits .f32 0x40000000#32) ⊤ = ⊤ := by
  rw [lit_2]
  show (if (2 : ℝ) < 0 then (⊥ : EReal) else if (1 : ℝ) < 2 then ⊤ else if (2 : ℝ) = 1 then 1 else 0) = ⊤
  norm_num

theorem pow_bot : Ideal.pow (Ideal.ofBits .f32 0x40000000#32) ⊥ = 0 := by
  rw [lit_2]
  show (if (2 : ℝ) < 0 then (⊥ : EReal) else if (1 : ℝ) < 2 then 0 else if (2 : ℝ) = 1 then 1 else ⊤) = 0
  norm_num

section Cell

variable (M s : ℝ) (h : s ≠ 0) (hb : (whole s : ℝ) ≠ 0)
include h hb

theorem div_endless (x : EReal) (hx : Endless x) : Endless (Ideal.div x (s : EReal)) := by
  rw [Ideal.div_coe h]
  exact endless_mul x _ (one_div_ne_zero h) hx

theorem shift_endless (x : EReal) (hx : Endless x) : Endless (shift (M : EReal) (s : EReal) x) := by
  unfold shift
  rw [base_real s h, Ideal.div_coe hb, lit_slope]
  exact endless_mul _ _ (one_div_ne_zero hb) (endless_mul _ _ (by norm_num) (endless_sub _ _ (div_endless s h hb x hx)))

/-- A cell whose bits' number is finite is finite. -/
theorem real_of_bits (x : EReal) (hg : ∃ r : ℝ, bits (M : EReal) (s : EReal) x = r) : ∃ r : ℝ, x = r := by
  refine (real_or_endless x).resolve_right fun hx => ?_
  obtain ⟨r, hr⟩ := hg
  have he : Endless (bits (M : EReal) (s : EReal) x) := ?_
  · rw [hr] at he
    exact he.elim (EReal.coe_ne_top _) (EReal.coe_ne_bot _)
  unfold bits
  rw [lit_147, lit_2p23]
  exact endless_mul _ _ (by norm_num) (endless_sub _ _ (shift_endless M s h hb x hx))

/-- The precondition's power is never negative. -/
theorem ePre_nonneg (x : EReal) : 0 ≤ ePre (M : EReal) (s : EReal) x := by
  rcases real_or_endless x with ⟨r, rfl⟩ | hx
  · rw [ePre_real M s r h hb]
    exact_mod_cast (ex_pos M s r).le
  · rcases shift_endless M s h hb x hx with e | e
    · unfold ePre
      rw [e]
      show 0 ≤ _ * Ideal.pow (Ideal.ofBits .f32 0x40000000#32) (Ideal.ofBits .f32 0x41A00000#32 - ⊤)
      rw [EReal.sub_top, pow_bot, mul_zero]
    · unfold ePre
      rw [e]
      show 0 ≤ (Ideal.ofBits .f32 0x3F800000#32 - ((⊥ : EReal) - ⊥) * Ideal.ofBits .f32 0x3F000000#32)
        * Ideal.pow (Ideal.ofBits .f32 0x40000000#32) (Ideal.ofBits .f32 0x41A00000#32 - ⊥)
      rw [lit_20, EReal.coe_sub_bot, pow_top, EReal.bot_sub, lit_half, EReal.bot_mul_coe_of_pos (by norm_num), lit_1, EReal.coe_sub_bot, EReal.top_mul_top]
      exact le_top

variable {p : EReal → EReal} {Good : EReal → Prop} {d : ℝ} (hn : Near p Good d) (x : EReal)
include hn

/-- Where nothing is lost the two powers are one. -/
theorem cell_good (hg : Good (bits (M : EReal) (s : EReal) x)) : ∃ e k : ℝ, 0 < k ∧ exR (M : EReal) (s : EReal) x = (((whole s : ℝ) * e : ℝ) : EReal)
    ∧ p (line (M : EReal) (slope (s : EReal)) (slope (s : EReal) * inv (s : EReal)) x) = (k : EReal) ∧ k = e := by
  obtain ⟨w, hw, hpw⟩ := hn.good _ hg
  obtain ⟨r, rfl⟩ := real_of_bits M s h hb x ⟨w, hw⟩
  refine ⟨ex M s r, ex M s r, ex_pos _ _ _, exR_real M s r h hb, ?_, rfl⟩
  rw [bits_real M s r h hb] at hw hpw
  rw [line_real M s r h hb, hpw, ← EReal.coe_eq_coe_iff.mp hw, mul_div_cancel_right₀ _ (by norm_num)]
  rfl

/-- Where the base is positive the kernel's power is nearly the reference's, or above it. A cell of minus infinity has power zero
    in the reference and the clamp's in the kernel. -/
theorem cell_near (hd : 0 ≤ d) (hx : Ideal.div x (s : EReal) ≤ (M : EReal)) (hp : 0 < (whole s : ℝ)) : ∃ e k : ℝ, 0 < k ∧ exR (M : EReal) (s : EReal) x = (((whole s : ℝ) * e : ℝ) : EReal)
    ∧ p (line (M : EReal) (slope (s : EReal)) (slope (s : EReal) * inv (s : EReal)) x) = (k : EReal)
    ∧ ePre (M : EReal) (s : EReal) x = (e : EReal) ∧ e ≤ (1 + d) * k := by
  rcases real_or_endless x with ⟨r, rfl⟩ | he
  · have hlow : (147 - sh M s r) * 8388608 ≤ 1233125376 := by
      rw [div_real _ _ h, EReal.coe_le_coe_iff] at hx
      have : 0 ≤ sh M s r := div_nonneg (mul_nonneg (sub_nonneg.mpr hx) (by norm_num)) hp.le
      linarith
    obtain ⟨k, h1, h2, h3⟩ := hn.low _ hlow
    rw [mul_div_cancel_right₀ _ (by norm_num)] at h3
    exact ⟨ex M s r, k, h2, exR_real M s r h hb, by rw [line_real M s r h hb, h1], ePre_real M s r h hb, h3⟩
  · have hbot : Ideal.div x (s : EReal) = ⊥ := by
      refine (div_endless s h hb x he).resolve_left fun e => ?_
      rw [e] at hx
      exact absurd (top_le_iff.mp hx) (EReal.coe_ne_top _)
    obtain ⟨k, hk, hk0⟩ := hn.bot
    refine ⟨0, k, hk0, ?_, ?_, ?_, by positivity⟩
    · have hip : ipR (M : EReal) (s : EReal) x = ⊥ := by
        unfold ipR
        rw [hbot, EReal.bot_sub, lit_slope, EReal.bot_mul_coe_of_pos (by norm_num)]
      have hq : qR (M : EReal) (s : EReal) x = ⊤ := by
        unfold qR
        rw [hip, base_real s h, ← EReal.coe_neg, Ideal.div_coe (neg_ne_zero.mpr hb),
          EReal.bot_mul_coe_of_neg (one_div_neg.mpr (neg_neg_of_pos hp))]
        rfl
      unfold exR
      rw [hq, EReal.sub_top, pow_bot, mul_zero, mul_zero]
      rfl
    · have hl : line (M : EReal) (slope (s : EReal)) (slope (s : EReal) * inv (s : EReal)) x = ⊥ := by
        unfold line
        rw [Ideal.div_coe h] at hbot
        rw [slope_real s h hb, inv_real s h, mul_comm ((12058624 / (whole s : ℝ) : ℝ) : EReal), ← mul_assoc, hbot,
          EReal.bot_mul_coe_of_pos (by positivity), EReal.bot_add]
      rw [hl, hk]
    · have hs : shift (M : EReal) (s : EReal) x = ⊤ := by
        unfold shift
        rw [hbot, EReal.coe_sub_bot, base_real s h, Ideal.div_coe hb, lit_slope, EReal.top_mul_coe_of_pos (by norm_num),
          EReal.top_mul_coe_of_pos (one_div_pos.mpr hp)]
      unfold ePre
      rw [hs]
      show _ * Ideal.pow (Ideal.ofBits .f32 0x40000000#32) (Ideal.ofBits .f32 0x41A00000#32 - ⊤) = _
      rw [EReal.sub_top, pow_bot, mul_zero]
      rfl

end Cell

end Cert.Shiftmax

end
-- ==== Proof.Value.Equal.lean ====
/- The kernel's result and the reference's are one: where no power loses anything because the two powers are one, and above
   `2^30` because both floored quotients are zero. -/
module

public import proofs.«01_k».proof.Proof.Value.Cell

@[expose] public section

set_option maxRecDepth 16384

noncomputable section

namespace Cert.Shiftmax

open Idealize.ShloMosaic

/-- The two results at a cell, over the real numbers: a power `k` of the kernel's and `e` of the reference's, their sums `K` and
    `E`, the base `b`. -/
theorem results_same (b e E k K : ℝ) (hb : b ≠ 0) (hK : 0 < K)
    (h : (k = e ∧ K = E) ∨ (0 < b ∧ 1073741824 < E * b ∧ 1073741824 < K * b)) :
    (k : EReal) * (Ideal.liftRound Int.floor (Ideal.div (Ideal.ofBits .f32 0x4E800000#32) ((K : EReal) * (b : EReal)))
        * (Ideal.ofBits .f32 0x30800000#32 * (b : EReal)))
      = Ideal.liftRound Int.floor (Ideal.div (Ideal.ofBits .f32 0x4E800000#32) ((b * E : ℝ) : EReal)) * ((b * e : ℝ) : EReal)
        * Ideal.ofBits .f32 0x34000000#32 * Ideal.ofBits .f32 0x3C000000#32 := by
  have hE : E ≠ 0 := by
    rcases h with ⟨-, rfl⟩ | ⟨-, h1, -⟩
    · exact hK.ne'
    · rintro rfl; norm_num at h1
  have h1 : K * b ≠ 0 := mul_ne_zero hK.ne' hb
  have h2 : b * E ≠ 0 := mul_ne_zero hb hE
  rw [← EReal.coe_mul, lit_2p30, lit_2m30, lit_2m23, lit_2m7, div_real _ _ h1, div_real _ _ h2, floor_real, floor_real, ← EReal.coe_mul,
    ← EReal.coe_mul, ← EReal.coe_mul, ← EReal.coe_mul, ← EReal.coe_mul, ← EReal.coe_mul]
  congr 1
  rcases h with ⟨rfl, rfl⟩ | ⟨hp, hf, hl⟩
  · rw [mul_comm K b]; ring
  · have e1 : ⌊(1073741824 : ℝ) / (K * b)⌋ = 0 := by
      rw [Int.floor_eq_zero_iff]
      have h4 : 0 < K * b := mul_pos hK hp
      exact ⟨by positivity, by rw [div_lt_one h4]; linarith⟩
    have e2 : ⌊(1073741824 : ℝ) / (b * E)⌋ = 0 := by
      rw [Int.floor_eq_zero_iff]
      have h4 : 0 < b * E := by linarith
      exact ⟨by positivity, by rw [div_lt_one h4]; linarith⟩
    rw [e1, e2]; simp

/-- Where every power is itself, or the sum is above `2^30` by more than the powers fall short, the two results are equal at every
    cell. -/
theorem out_same (p : EReal → EReal) (Good : EReal → Prop) (d l : ℝ) (hn : Near p Good d) (hd : 0 ≤ d) (hl : 1073741824 * (1 + d) ≤ l) (X : A.Idx → EReal) (s : EReal)
    (h : (s = 0 ∨ base s = 0) ∨ max (topR X s) (-topR X s) < Ideal.ofBits .f32 0x7F800000#32
      ∧ ((∀ i, Good (bits (topR X s) s (X i))) ∨ Flushed (l : EReal) X s)) (i : A.Idx) : outK p X s i = outR X s i := by
  by_cases hs : s = 0
  · obtain ⟨k, hk, hp, -⟩ := hn.low 1233125376 le_rfl
    rw [hs, outK_zero p k hk hp, outR_zero]
  by_cases hb : base s = 0
  · rw [outK_flat p X s hb, outR_flat X s hb]
  obtain ⟨hM, h⟩ := h.resolve_left (by rintro (e | e); exacts [hs e, hb e])
  rw [lit_inf] at hM
  obtain ⟨M, hM⟩ := real_of_lt _ hM
  obtain ⟨r, rfl⟩ := scale_real s hb
  have hr : r ≠ 0 := by rintro rfl; exact hs rfl
  have hb' : (whole r : ℝ) ≠ 0 := by intro e; rw [base_real r hr, e] at hb; exact hb rfl
  have hMk : (Finset.univ.sup fun i : A.Idx => X i * inv (r : EReal)) = (M : EReal) := by
    rw [← hM]
    unfold topR
    congr 1
    funext i
    rw [inv_real r hr, Ideal.div_coe hr]
  have hle (i : A.Idx) : Ideal.div (X i) (r : EReal) ≤ (M : EReal) := hM ▸ le_topR X (r : EReal) i
  rw [hM] at h
  -- the powers of both
  have hk : ∃ e k : A.Idx → ℝ, (∀ i, 0 < k i) ∧ (∀ i, exR (M : EReal) (r : EReal) (X i) = (((whole r : ℝ) * e i : ℝ) : EReal))
      ∧ (∀ i, p (line (M : EReal) (slope (r : EReal)) (slope (r : EReal) * inv (r : EReal)) (X i)) = (k i : EReal))
      ∧ ((∀ i, k i = e i) ∨ (0 < (whole r : ℝ) ∧ l < (∑ i, e i) * (whole r : ℝ) ∧ ∀ i, e i ≤ (1 + d) * k i)) := by
    rcases h with hg | hf
    · choose e k h1 h2 h3 h4 using fun i => cell_good M r hr hb' hn (X i) (hg i)
      exact ⟨e, k, h1, h2, h3, .inl h4⟩
    · unfold Flushed at hf
      rw [hM, base_real r hr] at hf
      have hp : 0 < (whole r : ℝ) := by
        by_contra hn
        have h0 : (∑ i, ePre (M : EReal) (r : EReal) (X i)) * ((whole r : ℝ) : EReal) ≤ 0 :=
          EReal.mul_nonpos_iff.mpr (.inl ⟨Finset.sum_nonneg fun i _ => ePre_nonneg M r hr hb' (X i), by exact_mod_cast not_lt.mp hn⟩)
        have h1 : (l : EReal) < ((0 : ℝ) : EReal) := hf.trans_le h0
        rw [EReal.coe_lt_coe_iff] at h1
        nlinarith
      choose e k h1 h2 h3 h4 h5 using fun i => cell_near M r hr hb' hn (X i) hd (hle i) hp
      rw [sum_real _ e h4, ← EReal.coe_mul, EReal.coe_lt_coe_iff] at hf
      exact ⟨e, k, h1, h2, h3, .inr ⟨hp, hf, h5⟩⟩
  obtain ⟨e, k, hpos, hex, hline, hcase⟩ := hk
  have hden : denR X (r : EReal) = (((whole r : ℝ) * ∑ i, e i : ℝ) : EReal) := by
    unfold denR
    rw [hM, Finset.mul_sum]
    exact sum_real _ _ hex
  unfold outK outR
  rw [hMk, hM, hden, base_real r hr, hex, hline, sum_real _ _ hline]
  refine results_same _ _ _ _ _ hb' (Finset.sum_pos (fun i _ => hpos i) Finset.univ_nonempty) ?_
  rcases hcase with h1 | ⟨h0, h1, h2⟩
  · exact .inl ⟨h1 i, Finset.sum_congr rfl fun i _ => h1 i⟩
  · have h3 : ∑ i, e i ≤ (1 + d) * ∑ i, k i := by
      rw [Finset.mul_sum]
      exact Finset.sum_le_sum fun i _ => h2 i
    have h4 := mul_le_mul_of_nonneg_right h3 h0.le
    refine .inr ⟨h0, by nlinarith, ?_⟩
    have h5 : 1073741824 * (1 + d) < (1 + d) * ((∑ i, k i) * (whole r : ℝ)) := by rw [← mul_assoc]; linarith
    have h6 : 0 < 1 + d := by linarith
    rw [mul_comm] at h5
    exact lt_of_mul_lt_mul_left h5 h6.le

/-- The kernel's own way: whole on the grid, and within `2^-23`. -/
theorem near_asBits : Near asBits OnGrid (1 / 8388608) where
  good w hw := by
    obtain ⟨r, rfl⟩ : ∃ r : ℝ, w = r := by
      refine (real_or_endless w).resolve_right fun he => ?_
      obtain ⟨-, h2, h3⟩ := hw
      rw [lit_low] at h2
      rw [lit_high] at h3
      rcases he with rfl | rfl
      · exact not_top_lt h3
      · exact absurd (le_bot_iff.mp h2) (EReal.coe_ne_bot _)
    exact ⟨r, rfl, asBits_grid r hw⟩
  low := asBits_low
  bot := ⟨_, asBits_bot, pw_pos 7⟩

end Cert.Shiftmax

end
-- ==== Proof.Value.Claim.lean ====
/- The value claim: under the precondition the idealized kernel and the reference return the same array. -/
module

public import proofs.«01_k».proof.Defs
public import proofs.«01_k».proof.Proof.Value.Result
public import proofs.«01_k».proof.Proof.Value.Equal

@[expose] public section

set_option maxRecDepth 16384

noncomputable section

namespace Cert.Shiftmax

open Idealize.ShloMosaic Idealize.ShloMosaic.TcCoe Idealize.SL.Sem

/-- The kernel's result depends on the input and the scale alone. -/
theorem returned_eq (m : (ℓ : Loc Cert.KernelIdeal.nD Cert.KernelIdeal.τ Cert.KernelIdeal.sig) → Buf (Elt Ideal) ℓ) (c : Dev Cert.KernelIdeal.nD) :
    returned m c = outK asBits (X m c) (S m c) := by
  funext i
  unfold returned outK factor tot pk top
  rfl

/-- Where the precondition holds, that is the reference's result. -/
theorem returned_same (m : (ℓ : Loc Cert.KernelIdeal.nD Cert.KernelIdeal.τ Cert.KernelIdeal.sig) → Buf (Elt Ideal) ℓ)
    (h : Cert.Pre_KernelIdeal_on_grid_or_flushed m) (c : Dev Cert.KernelIdeal.nD) :
    outV (X m c) (m ((c.tc : Thread Cert.KernelIdeal.nD Cert.KernelIdeal.τ).loc Cert.KernelIdeal.main_arg1)) = returned m c := by
  rw [returned_eq]
  funext i
  rw [out_eq]
  exact (out_same asBits OnGrid (1 / 8388608) 1073741952 near_asBits (by norm_num) (by norm_num) (X m c) (S m c)
    (lit_flush ▸ pre_facts _ _ (h c)) i).symm

/-- The value claim. -/
theorem algebraic : Cert.algebraic_KernelIdeal_ReferenceIdeal_pre_on_grid_or_flushed := fun m g m' g' hpre hargs => by
  refine ⟨fun c => returned m c, run_kernel m g, (θ_run Cert.ReferenceIdeal.defs _ _).mono (fun _ h c => ⟨(h c).1.trans ?_, (h c).2⟩)
    (Cert.ReferenceIdeal.Value.run (F := Ideal) m' g')⟩
  rw [res_eq, (hargs c).1, (hargs c).2]
  exact returned_same m hpre c

end Cert.Shiftmax

end
-- ==== Proof.Exact.Payloads.lean ====
/- What the three payloads of the kernel without its rounding compute on the extended reals, element by element. -/
module

public import proofs.«01_k».proof.Proof.Kernel2Ideal.Contents
public import proofs.«01_k».proof.Proof.Value.Payloads
public import Idealize.ShloMosaic.PureOps.Ideal.Laws
public import Idealize.ShloMosaic.Lib.Pipeline.Value
public import Idealize.ShloMosaic.Lib.Pointwise.ElementwiseCore

@[expose] public section

set_option maxRecDepth 16384

noncomputable section

namespace Cert.Shiftmax.Exact

open Cert.Kernel2Ideal Cert.Kernel2Ideal.Gen Cert.Kernel2Ideal.Shift
open Idealize.ShloMosaic Idealize.ShloMosaic.TcCoe

/-- The power that the nearest float of the argument's bits stands for, the argument raised to at least `7 · 2²³`. -/
def power (w : EReal) : EReal :=
  (Ideal.ofBits .f32 0x3F800000#32 + (max w (Ideal.ofBits .f32 0x4C600000#32) * Ideal.ofBits .f32 0x34000000#32
      - Ideal.liftRound Int.floor (max w (Ideal.ofBits .f32 0x4C600000#32) * Ideal.ofBits .f32 0x34000000#32)))
    * Ideal.exp2 (Ideal.liftRound Int.floor (max w (Ideal.ofBits .f32 0x4C600000#32) * Ideal.ofBits .f32 0x34000000#32)
      - Ideal.ofBits .f32 0x42FE0000#32)

/-- One step of the running maximum. -/
theorem pay1_apply (i : grid0.Coords) (x : Vec Ideal S1x197x64x197 .f32) (a : EReal) (v : Vec Ideal S8x128 .f32) (j : S8x128.Idx) :
    k0_pay1 (F := Ideal) i x a v j
      = max (if first i = 1#1 then ⊥ else v j) (Finset.univ.sup fun k : S1x197x64x197.Idx => x k * a) := by
  have hn : (Named.named (F := Ideal) (φ := .f32) Cert.Kernel2Ideal.κ "neg_big" 0xFF61B1E6#32 : Ideal .f32) = (⊥ : EReal) :=
    IdealRules.named_const.ideal_named_scalar _ _ _ _ rfl
  have hx : (fun k : S1x197x64x197.Idx => x k * a) = mulf (F := Ideal) (φ := .f32) x (broadcast S1x197x64x197 a) := rfl
  unfold k0_pay1
  rw [shapeCast_self, shapeCast_self, maximumf_apply, spread_max, hn, hx]
  generalize Finset.univ.sup (mulf (F := Ideal) (φ := .f32) x (broadcast S1x197x64x197 a)) = S
  show max ((if first i = 1#1 then broadcast S8x128 (⊥ : EReal) else v) j) S = max (if first i = 1#1 then (⊥ : EReal) else v j) S
  split_ifs <;> rfl

/-- One step of the running sum. -/
theorem pay2_apply (i : grid0.Coords) (x : Vec Ideal S1x197x64x197 .f32) (M a3 a2 : EReal) (v : Vec Ideal S8x128 .f32) (j : S8x128.Idx) :
    k0_pay2 (F := Ideal) i x (fun _ => M) a3 a2 v j
      = (if first i = 1#1 then 0 else v j) + ∑ k : S1x197x64x197.Idx, power (line M a3 a2 (x k)) := by
  unfold k0_pay2
  rw [shapeCast_self, shapeCast_self]
  show (Scalar.select (first i) (broadcast S8x128 _) v j) + (shapeCast _ _ _ _) = _
  refine congrArg₂ (fun a b : EReal => a + b) ?_ ?_
  · rw [show (Scalar.ofBits .f32 (0x00000000#32) : Ideal .f32) = 0 from Ideal.ofBits_zero_f32]
    unfold Scalar.select
    split_ifs <;> first | rfl | simp_all
  · unfold shapeCast
    refine (Ideal.multiReduction_add_total _ _ _ (by intro b; fin_cases b; rfl) _ _ _).trans ?_
    exact Equiv.sum_comp (Shape.reshapeEquiv _) (fun k : S1x197x64x197.Idx => power (line M a3 a2 (x k)))

/-- The output block. -/
theorem pay3_apply (s a1 a4 : EReal) (x : Vec Ideal S1x197x64x197 .f32) (M a3 a2 : EReal) (k : S1x197x64x197.Idx) :
    k0_pay3 (F := Ideal) (fun _ => s) a1 a4 x (fun _ => M) a3 a2 k
      = power (line M a3 a2 (x k)) * (Ideal.liftRound Int.floor (Ideal.div (Ideal.ofBits .f32 0x4E800000#32) (s * a1)) * a4) := by
  unfold k0_pay3
  rw [shapeCast_self]
  rfl

end Cert.Shiftmax.Exact

end
-- ==== Proof.Exact.Entry.lean ====
/- What the region of the kernel without its rounding finds: the input transposed, and the five scalars made of the scale. -/
module

public import proofs.«01_k».proof.Proof.Exact.Payloads
public import proofs.«01_k».proof.Proof.Value.Entry
public import Idealize.ShloMosaic.Lib.Pointwise.Index
public import Idealize.ShloMosaic.Lib.IdealHost

@[expose] public section

set_option maxRecDepth 16384

noncomputable section

namespace Cert.Shiftmax.Exact

open Cert.Kernel2Ideal Cert.Kernel2Ideal.Gen Cert.Kernel2Ideal.Shift
open Idealize.ShloMosaic Idealize.ShloMosaic.TcCoe

variable (m : (ℓ : Loc nD τ sig) → Buf (Elt Ideal) ℓ)

/-- The input. -/
abbrev X (c : Dev nD) : FVec Ideal S64x12x197x197 .f32 := m ((c : Thread nD τ).loc main_arg0)
/-- The scale. -/
abbrev S (c : Dev nD) : EReal := (m ((c : Thread nD τ).loc main_arg1) : FVec Ideal S1 .f32) (ix1 0)

/-- The region reads the input transposed. -/
theorem V_v0 (c : Dev nD) : V (F := Ideal) m c main_v0
    = transpose S12x197x64x197 [1, 2, 0, 3] (X m c) transposes_S64x12x197x197_S12x197x64x197_1_2_0_3 := by
  unfold V V0
  simp only [hostOps0, hostOps0_1, hostOps0_2, List.flatten_cons, List.flatten_nil, List.append_nil, List.cons_append, List.nil_append]
  after_results

/-- Where the input's block at point `t` starts. -/
theorem index1 (t : Fin cfg0.N) : win0_1.index t 0 = t.val % 12 ∧ win0_1.index t 1 = 0 ∧ win0_1.index t 2 = 0 ∧ win0_1.index t 3 = 0 := by
  refine ⟨?_, rfl, ?_, rfl⟩
  · show (BitVec.ofNat 32 (grid0.coords t 1).val).toNat = _
    rw [co1, BitVec.toNat_ofNat]; omega
  · show (BitVec.ofNat 32 (grid0.coords t 2).val).toNat = _
    rw [co2, BitVec.toNat_ofNat]; omega

/-- The input's cell that the block's cell `k` at point `t` holds, coordinate by coordinate. -/
theorem blk_emb (t : Fin cfg0.N) (n : Fin 12) (hn : n.val = t.val % 12) (k : S1x197x64x197.Idx) (b : Fin S12x197x64x197.rank) :
    (emb n k ([1, 2, 0, 3] : List (Fin S64x12x197x197.rank))[b.cast transposes_S64x12x197x197_S12x197x64x197_1_2_0_3.2.1]).val
      = (((cfg0.win 1).blk t).view.emb k b).val := by
  obtain ⟨i0, i1, i2, i3⟩ := index1 t
  have h0 : (k 0).val = 0 := by have : (k 0).val < 1 := (k 0).isLt; omega
  match b with
  | ⟨0, _⟩ => show n.val = win0_1.index t 0 * 1 + 1 * (k 0).val; rw [i0, h0]; omega
  | ⟨1, _⟩ => show (k 1).val = win0_1.index t 1 * 197 + 1 * (k 1).val; rw [i1]; omega
  | ⟨2, _⟩ => show (k 2).val = win0_1.index t 2 * 64 + 1 * (k 2).val; rw [i2]; omega
  | ⟨3, _⟩ => show (k 3).val = win0_1.index t 3 * 197 + 1 * (k 3).val; rw [i3]; omega

/-- The cell `k` of the transposed input's block at point `t` is the cell of the input at `emb` of the block's number and `k`. -/
theorem xb_apply (c : Dev nD) (t : Fin cfg0.N) (n : Fin 12) (hn : n.val = t.val % 12) (k : S1x197x64x197.Idx) :
    xb (F := Ideal) m c t k = X m c (emb n k) := by
  unfold xb iblk
  rw [View.read_apply]
  show V (F := Ideal) m c main_v0 _ = _
  rw [V_v0]
  exact transpose_apply _ _ _ _ _ (blk_emb t n hn k)

/-- Five one-element vectors laid end to end. -/
theorem sc_five (a b c d e : FVec Ideal S1 .f32) (h : Shape.Concatenates [S1, S1, S1, S1, S1] S5 0) (k : Fin 5) :
    sc (F := Ideal) (concatenate S5 0 [⟨S1, a⟩, ⟨S1, b⟩, ⟨S1, c⟩, ⟨S1, d⟩, ⟨S1, e⟩] h : Vec Ideal S5 .f32) k = ![a cell, b cell, c cell, d cell, e cell] k := by
  unfold sc
  fin_cases k
  · exact concatenate_apply_piece (t := S5) 0 [⟨S1, a⟩, ⟨S1, b⟩, ⟨S1, c⟩, ⟨S1, d⟩, ⟨S1, e⟩] h _ 0 (by simp) S1 a rfl rfl 0 rfl cell (fun b hb => absurd (Subsingleton.elim _ _) hb) rfl
  · exact concatenate_apply_piece (t := S5) 0 [⟨S1, a⟩, ⟨S1, b⟩, ⟨S1, c⟩, ⟨S1, d⟩, ⟨S1, e⟩] h _ 1 (by simp) S1 b rfl rfl 1 rfl cell (fun b hb => absurd (Subsingleton.elim _ _) hb) rfl
  · exact concatenate_apply_piece (t := S5) 0 [⟨S1, a⟩, ⟨S1, b⟩, ⟨S1, c⟩, ⟨S1, d⟩, ⟨S1, e⟩] h _ 2 (by simp) S1 c rfl rfl 2 rfl cell (fun b hb => absurd (Subsingleton.elim _ _) hb) rfl
  · exact concatenate_apply_piece (t := S5) 0 [⟨S1, a⟩, ⟨S1, b⟩, ⟨S1, c⟩, ⟨S1, d⟩, ⟨S1, e⟩] h _ 3 (by simp) S1 d rfl rfl 3 rfl cell (fun b hb => absurd (Subsingleton.elim _ _) hb) rfl
  · exact concatenate_apply_piece (t := S5) 0 [⟨S1, a⟩, ⟨S1, b⟩, ⟨S1, c⟩, ⟨S1, d⟩, ⟨S1, e⟩] h _ 4 (by simp) S1 e rfl rfl 4 rfl cell (fun b hb => absurd (Subsingleton.elim _ _) hb) rfl

/-- The region reads these five scalars. -/
theorem V_v11 (c : Dev nD) (k : Fin 5) : sc (V (F := Ideal) m c main_v11) k
    = ![inv (S m c), base (S m c), slope (S m c) * inv (S m c), slope (S m c), Ideal.ofBits .f32 0x30800000#32 * base (S m c)] k := by
  unfold V V0
  simp only [hostOps0, hostOps0_1, hostOps0_2, List.flatten_cons, List.flatten_nil, List.append_nil, List.cons_append, List.nil_append]
  simp only [StableHlo.after_cons, StableHlo.after_nil]
  rw [StableHlo.nary_result]
  refine (sc_five _ _ _ _ _ _ k).trans ?_
  refine congrFun (congrArg₂ Matrix.vecCons ?_ (congrArg₂ Matrix.vecCons ?_ (congrArg₂ Matrix.vecCons ?_ (congrArg₂ Matrix.vecCons ?_ (congrArg₂ Matrix.vecCons ?_ rfl))))) k
  · show (HloOp.result _ _ (Proc.devRef .tc main_v2)) cell = _
    after_results_simp
    rfl
  · show (HloOp.result _ _ (Proc.devRef .tc main_v5)) cell = _
    after_results_simp
    rfl
  · show (HloOp.result _ _ (Proc.devRef .tc main_v8)) cell = _
    after_results_simp
    rfl
  · show (HloOp.result _ _ (Proc.devRef .tc main_v7)) cell = _
    after_results_simp
    rfl
  · show (HloOp.result _ _ (Proc.devRef .tc main_v10)) cell = _
    after_results_simp
    rfl

/-- The scalars of the block are the array's, at every point. -/
theorem scb_apply (c : Dev nD) (t : Fin cfg0.N) (k : Fin 5) :
    sc (F := Ideal) (scb (F := Ideal) m c t) k = sc (F := Ideal) (V (F := Ideal) m c main_v11) k := by
  unfold scb iblk sc
  rw [View.read_apply]
  refine congrArg (V (F := Ideal) m c main_v11) (funext fun a => Fin.ext ?_)
  match a with
  | ⟨0, _⟩ => show 0 * 5 + 1 * k.val = k.val; omega

end Cert.Shiftmax.Exact

end
-- ==== Proof.Exact.Totals.lean ====
/- The running maximum and the running sum of the kernel without its rounding, closed: over all twelve blocks they are the maximum and the sum over
   every cell of the input. -/
module

public import proofs.«01_k».proof.Proof.Exact.Entry
public import proofs.«01_k».proof.Proof.Value.Totals

@[expose] public section

set_option maxRecDepth 16384

noncomputable section

namespace Cert.Shiftmax.Exact

open Cert.Kernel2Ideal Cert.Kernel2Ideal.Gen Cert.Kernel2Ideal.Shift
open Idealize.ShloMosaic Idealize.ShloMosaic.TcCoe

variable (m : (ℓ : Loc nD τ sig) → Buf (Elt Ideal) ℓ)

theorem sc_0 (c : Dev nD) (t : Fin cfg0.N) : sc (F := Ideal) (scb (F := Ideal) m c t) 0 = inv (S m c) := by
  rw [scb_apply, V_v11]; rfl
theorem sc_1 (c : Dev nD) (t : Fin cfg0.N) : sc (F := Ideal) (scb (F := Ideal) m c t) 1 = base (S m c) := by
  rw [scb_apply, V_v11]; rfl
theorem sc_2 (c : Dev nD) (t : Fin cfg0.N) : sc (F := Ideal) (scb (F := Ideal) m c t) 2 = slope (S m c) * inv (S m c) := by
  rw [scb_apply, V_v11]; rfl
theorem sc_3 (c : Dev nD) (t : Fin cfg0.N) : sc (F := Ideal) (scb (F := Ideal) m c t) 3 = slope (S m c) := by
  rw [scb_apply, V_v11]; rfl
theorem sc_4 (c : Dev nD) (t : Fin cfg0.N) : sc (F := Ideal) (scb (F := Ideal) m c t) 4 = Ideal.ofBits .f32 0x30800000#32 * base (S m c) := by
  rw [scb_apply, V_v11]; rfl

/-- The block at point `t`, as cells of the input. -/
theorem xb_eq (c : Dev nD) (t : Fin cfg0.N) (n : ℕ) (hn : n % 12 = t.val % 12) : xb (F := Ideal) m c t = fun k => X m c (emb (bn n) k) :=
  funext fun k => xb_apply m c t (bn n) hn k

/-- The largest of the scaled cells of block `i`. -/
def blockMax (c : Dev nD) (i : ℕ) : EReal := Finset.univ.sup fun k : S1x197x64x197.Idx => X m c (emb (bn i) k) * inv (S m c)

theorem maxF_closed (c : Dev nD) : ∀ n, n ≤ 11 → maxF (F := Ideal) m c n = fun _ => (Finset.range (n + 1)).sup (blockMax m c)
  | 0, _ => by
    funext j
    show k0_pay1 (F := Ideal) _ _ _ _ j = _
    rw [pay1_apply, sc_0, xb_eq m c (pt 0) 0 rfl, if_pos (first_one _ (co1 _) (co2 _))]
    rw [Finset.range_one, Finset.sup_singleton, max_eq_right bot_le]
    rfl
  | n + 1, h => by
    funext j
    have hv : (pt (n + 1)).val = n + 1 := Nat.mod_eq_of_lt (by omega)
    show k0_pay1 (F := Ideal) _ _ _ _ j = _
    rw [pay1_apply, sc_0, xb_eq m c (pt (n + 1)) (n + 1) (by rw [hv]), if_neg, maxF_closed c n (by omega), Finset.range_add_one (n := n + 1),
      Finset.sup_insert, max_comm]
    · rfl
    · rw [first_zero _ (by rw [co1, hv]; omega)]; decide

/-- The kernel's maximum: of every scaled cell. -/
def top (c : Dev nD) : EReal := Finset.univ.sup fun i : S64x12x197x197.Idx => X m c i * inv (S m c)

theorem maxF_total (c : Dev nD) : maxF (F := Ideal) m c 11 = fun _ => top m c := by
  rw [maxF_closed m c 11 le_rfl]
  funext _
  exact sup_blocks fun i => X m c i * inv (S m c)

/-- The kernel's power at a cell. -/
def pk (c : Dev nD) (i : S64x12x197x197.Idx) : EReal := power (line (top m c) (slope (S m c)) (slope (S m c) * inv (S m c)) (X m c i))

/-- The sum of the powers of block `i`. -/
def blockSum (c : Dev nD) (i : ℕ) : EReal := ∑ k : S1x197x64x197.Idx, pk m c (emb (bn i) k)

theorem sumF_closed (c : Dev nD) : ∀ n, n ≤ 11 → sumF (F := Ideal) m c n = fun _ => ∑ i ∈ Finset.range (n + 1), blockSum m c i
  | 0, _ => by
    funext j
    show k0_pay2 (F := Ideal) _ _ _ _ _ _ j = _
    rw [maxF_total, pay2_apply, sc_2, sc_3, xb_eq m c (pt 12) 0 rfl, if_pos (first_one _ (co1 _) (co2 _))]
    rw [Finset.sum_range_one, zero_add]
    rfl
  | n + 1, h => by
    funext j
    have hv : (pt (12 + (n + 1))).val = 12 + (n + 1) := Nat.mod_eq_of_lt (by omega)
    show k0_pay2 (F := Ideal) _ _ _ _ _ _ j = _
    rw [maxF_total, pay2_apply, sc_2, sc_3, xb_eq m c (pt (12 + (n + 1))) (n + 1) (by rw [hv]; omega), if_neg, sumF_closed c n (by omega),
      Finset.sum_range_succ _ (n + 1)]
    · rfl
    · rw [first_zero _ (by rw [co1, hv]; omega)]; decide

/-- The kernel's sum: of the powers at every cell. -/
def tot (c : Dev nD) : EReal := ∑ i : S64x12x197x197.Idx, pk m c i

theorem sumF_total (c : Dev nD) : sumF (F := Ideal) m c 11 = fun _ => tot m c := by
  rw [sumF_closed m c 11 le_rfl]
  funext _
  exact sum_blocks (pk m c)

/-- The kernel's factor: the floored quotient, brought to scale. -/
def factor (c : Dev nD) : EReal :=
  Ideal.liftRound Int.floor (Ideal.div (Ideal.ofBits .f32 0x4E800000#32) (tot m c * base (S m c))) * (Ideal.ofBits .f32 0x30800000#32 * base (S m c))

/-- The output block at a point of phase 2. -/
theorem outF_apply (c : Dev nD) (t : Fin cfg0.N) (n : Fin 12) (hn : n.val = t.val % 12) (k : S1x197x64x197.Idx) :
    outF (F := Ideal) m c t k = pk m c (emb n k) * factor m c := by
  show k0_pay3 (F := Ideal) _ _ _ _ _ _ _ k = _
  rw [maxF_total, sumF_total, pay3_apply, sc_1, sc_2, sc_3, sc_4, xb_apply m c t n hn k]
  rfl

end Cert.Shiftmax.Exact

end
-- ==== Proof.Exact.Result.lean ====
/- What the kernel without its rounding returns: at every cell of the input, its power there times its one factor. -/
module

public import proofs.«01_k».proof.Proof.Exact.Totals
public import proofs.«01_k».proof.Proof.Kernel2Ideal.Frame
public import Idealize.ShloMosaic.Lib.Pipeline.Value
public import Idealize.ShloMosaic.Lib.Quiescent

@[expose] public section

set_option maxRecDepth 16384

noncomputable section

namespace Cert.Shiftmax.Exact

open Cert.Kernel2Ideal Cert.Kernel2Ideal.Gen Cert.Kernel2Ideal.Shift
open Idealize.ShloMosaic Idealize.ShloMosaic.TcCoe Idealize.SL.Sem

variable (m : (ℓ : Loc nD τ sig) → Buf (Elt Ideal) ℓ)

/-- The result in the kernel's own layout. -/
def laid (c : Dev nD) : S12x197x64x197.Idx → EReal := fun i =>
  pk m c (ix4 (i 2 : Fin 64) (i 0 : Fin 12) (i 1 : Fin 197) (i 3 : Fin 197)) * factor m c

/-- The result in the input's layout. -/
def returned (c : Dev nD) : S64x12x197x197.Idx → EReal := fun i => pk m c i * factor m c

/-- Where the output's block at a point of phase 2 starts. -/
theorem index2 (t : Fin cfg0.N) (h : 24 ≤ t.val) :
    win0_2.index t 0 = t.val % 12 ∧ win0_2.index t 1 = 0 ∧ win0_2.index t 2 = 0 ∧ win0_2.index t 3 = 0 := by
  have ht := lt36 t
  have e : (BitVec.ofNat 32 (grid0.coords t 0).val) = 2#32 := by rw [co0]; congr 1; omega
  refine ⟨?_, rfl, ?_, rfl⟩
  · show (Scalar.select (Scalar.cmpi .eq (BitVec.ofNat 32 (grid0.coords t 0).val) 2#32) (BitVec.ofNat 32 (grid0.coords t 1).val) 0#32).toNat = _
    rw [e]
    show (BitVec.ofNat 32 (grid0.coords t 1).val).toNat = _
    rw [co1, BitVec.toNat_ofNat]; omega
  · show (Scalar.select (Scalar.cmpi .eq (BitVec.ofNat 32 (grid0.coords t 0).val) 2#32) (BitVec.ofNat 32 (grid0.coords t 2).val) 0#32).toNat = _
    rw [e]
    show (BitVec.ofNat 32 (grid0.coords t 2).val).toNat = _
    rw [co2, BitVec.toNat_ofNat]; omega

/-- The input's cell that the output block's cell `k` at point `t` belongs to. -/
theorem out_emb (t : Fin cfg0.N) (h : 24 ≤ t.val) (k : S1x197x64x197.Idx) (e : S12x197x64x197.Idx)
    (he : ∀ a, (e a).val = (((cfg0.win 2).blk t).view.emb k a).val) :
    ix4 (e 2 : Fin 64) (e 0 : Fin 12) (e 1 : Fin 197) (e 3 : Fin 197) = emb (bn t.val) k := by
  obtain ⟨i0, i1, i2, i3⟩ := index2 t h
  have h0 : (k 0).val = 0 := by have : (k 0).val < 1 := (k 0).isLt; omega
  have e0 : (e 0).val = t.val % 12 := by
    rw [he 0]; show win0_2.index t 0 * 1 + 1 * (k 0).val = _; rw [i0, h0]; omega
  have e1 : (e 1).val = (k 1).val := by
    rw [he 1]; show win0_2.index t 1 * 197 + 1 * (k 1).val = _; rw [i1]; omega
  have e2 : (e 2).val = (k 2).val := by
    rw [he 2]; show win0_2.index t 2 * 64 + 1 * (k 2).val = _; rw [i2]; omega
  have e3 : (e 3).val = (k 3).val := by
    rw [he 3]; show win0_2.index t 3 * 197 + 1 * (k 3).val = _; rw [i3]; omega
  funext a
  match a with
  | ⟨0, _⟩ => exact Fin.ext e2
  | ⟨1, _⟩ => exact Fin.ext e0
  | ⟨2, _⟩ => exact Fin.ext e1
  | ⟨3, _⟩ => exact Fin.ext e3

/-- What a point of phase 2 writes back is its block of the result. -/
theorem flushed_out (c : Dev nD) (t : Fin cfg0.N) (hf : (cfg0.win 2).flush t = true) :
    (dats (F := Ideal) m 0 c).flushed 2 t = ((cfg0.win 2).blk t).view.read (Elt Ideal) (laid m c) := by
  have h := (flush_out t).mp hf
  show (cfg0.win 2).cut (grid0.coords t) ((dats (F := Ideal) m 0 c).after 2 t) = _
  rw [after0_2]
  funext k
  rw [View.read_apply]
  refine (outF_apply m c t (bn t.val) rfl k).trans ?_
  exact congrArg (fun e => pk m c e * factor m c) (out_emb t h k _ fun _ => rfl).symm

/-- The blocks of phase 2 cover the result. -/
theorem covered (i : S12x197x64x197.Idx) : ∃ t : Fin cfg0.N, (cfg0.win 2).flush t = true ∧ i ∈ ((cfg0.win 2).blk t).view.set := by
  have h0 : (i 0 : Nat) < 12 := (i 0).isLt
  have h1 : (i 1 : Nat) < 197 := (i 1).isLt
  have h2 : (i 2 : Nat) < 64 := (i 2).isLt
  have h3 : (i 3 : Nat) < 197 := (i 3).isLt
  have ht : (pt (24 + (i 0).val)).val = 24 + (i 0).val := Nat.mod_eq_of_lt (by omega)
  obtain ⟨i0, i1, i2, i3⟩ := index2 (pt (24 + (i 0).val)) (by omega)
  rw [ht] at i0
  generalize hp : pt (24 + (i 0).val) = p at *
  refine ⟨p, (flush_out p).mpr (by omega), ?_⟩
  show i ∈ ((View.whole main_v12).slice (win0_2.rect p)).set
  rw [View.set_slice_whole, Rect.mem_set_unit]
  intro a
  match a with
  | ⟨0, _⟩ => show win0_2.index p 0 * 1 ≤ (i 0 : Nat) ∧ (i 0 : Nat) < win0_2.index p 0 * 1 + 1
              rw [i0]; omega
  | ⟨1, _⟩ => show win0_2.index p 1 * 197 ≤ (i 1 : Nat) ∧ (i 1 : Nat) < win0_2.index p 1 * 197 + 197
              rw [i1]; omega
  | ⟨2, _⟩ => show win0_2.index p 2 * 64 ≤ (i 2 : Nat) ∧ (i 2 : Nat) < win0_2.index p 2 * 64 + 64
              rw [i2]; omega
  | ⟨3, _⟩ => show win0_2.index p 3 * 197 ≤ (i 3 : Nat) ∧ (i 3 : Nat) < win0_2.index p 3 * 197 + 197
              rw [i3]; omega

/-- The region's result array. -/
theorem final_out (c : Dev nD) : (dats (F := Ideal) m 0 c).arrAt 2 cfg0.N = laid m c :=
  (dats (F := Ideal) m 0 c).arrAt_eq_of_cover 2 (laid m c) (flushed_out m c) covered

/-- Each cell of the result, after the host's transpose, comes from this cell of the region's array. -/
theorem back_emb (i : S64x12x197x197.Idx) (b : Fin S64x12x197x197.rank) :
    ((ix4 (i 1 : Fin 12) (i 2 : Fin 197) (i 0 : Fin 64) (i 3 : Fin 197) : S12x197x64x197.Idx)
        ([2, 0, 1, 3] : List (Fin S12x197x64x197.rank))[b.cast transposes_S12x197x64x197_S64x12x197x197_2_0_1_3.2.1]).val = (i b).val := by
  match b with
  | ⟨0, _⟩ => rfl
  | ⟨1, _⟩ => rfl
  | ⟨2, _⟩ => rfl
  | ⟨3, _⟩ => rfl

/-- The region's arrays are distinct. -/
theorem arr_inj : Function.Injective (Pipeline.arrRef (cfgs 0).spec) := by decide

/-- The region's result, as the operations after it find it. -/
theorem found (c : Dev nD) :
    Pipeline.withArrays (cfgs 0).spec c (V0 m c) (fun w => (dats (F := Ideal) m 0 c).arrAt w (cfgs 0).N) (Proc.devRef .tc main_v12) = laid m c :=
  (Pipeline.withArrays_arr (cfgs 0).spec arr_inj c (V0 m c) _ 2).trans (final_out m c)

/-- The result in the kernel's layout, transposed back. -/
theorem back (c : Dev nD) :
    transpose S64x12x197x197 [2, 0, 1, 3] (laid m c) transposes_S12x197x64x197_S64x12x197x197_2_0_1_3 = returned m c := by
  funext i
  refine (transpose_apply [2, 0, 1, 3] (laid m c) transposes_S12x197x64x197_S64x12x197x197_2_0_1_3 i
    (ix4 (i 1 : Fin 12) (i 2 : Fin 197) (i 0 : Fin 64) (i 3 : Fin 197)) (back_emb i)).trans ?_
  unfold laid returned
  refine congrArg (fun e => pk m c e * factor m c) (funext fun a => ?_)
  match a with
  | ⟨0, _⟩ => rfl
  | ⟨1, _⟩ => rfl
  | ⟨2, _⟩ => rfl
  | ⟨3, _⟩ => rfl

/-- The host's result, transposed back. -/
theorem W_v13 (c : Dev nD) : Pipeline.afterTail₀ cfgs (dats (F := Ideal) m) 0 (V0 m) [hostOps1] c main_v13 = returned m c := by
  unfold Pipeline.afterTail₀
  simp only [hostOps1, List.flatten_cons, List.flatten_nil, List.append_nil]
  rw [StableHlo.after_cons, StableHlo.after_nil, StableHlo.unary_result, found]
  exact back m c

/-- The kernel's run: its result, its arguments unchanged. -/
theorem run_kernel (ρ : Dev nD → PrngReg) : θ_run defs (onTc (τ := τ) (main (F := Ideal))) ⟨m, fun _ => 0, ρ⟩ (fun r => ∀ c : Dev nD,
      r.2.mem ((c.tc : Thread nD τ).loc main_v13) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans (W_v13 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.Shiftmax.Exact

end
-- ==== Proof.Exact.Power.lean ====
/- The power without the rounding, over the real numbers. -/
module

public import proofs.«01_k».proof.Proof.Value.Cell
public import proofs.«01_k».proof.Proof.Exact.Pre
public import proofs.«01_k».proof.Proof.Exact.Payloads

@[expose] public section

noncomputable section

namespace Cert.Shiftmax.Exact

open Idealize.ShloMosaic

theorem lit_127 : Ideal.ofBits .f32 0x42FE0000#32 = ((127 : ℝ) : EReal) := by
  simp [Ideal.ofBits, Ideal.ieee, -EReal.coe_mul]; norm_num

theorem exp2_real (n : ℤ) : Ideal.exp2 (((n : ℤ) : ℝ) : EReal) = (((2 : ℝ) ^ n : ℝ) : EReal) :=
  congrArg (fun r : ℝ => (r : EReal)) (Real.rpow_intCast 2 n)

/-- The power of a number at or above the clamp. -/
theorem power_of_max (w : EReal) (r : ℝ) (h : max w (Ideal.ofBits .f32 0x4C600000#32) = (r : EReal)) : power w = ((pw (r / 8388608) : ℝ) : EReal) := by
  unfold power pw
  rw [h, lit_2m23, lit_1, lit_127, ← EReal.coe_mul, floor_real, ← EReal.coe_sub, ← EReal.coe_add, ← EReal.coe_sub, mul_one_div,
    show (⌊r / 8388608⌋ : ℝ) - 127 = ((⌊r / 8388608⌋ - 127 : ℤ) : ℝ) by push_cast; rfl, exp2_real, ← EReal.coe_mul]

/-- It is the power itself in range, and nowhere below it. -/
theorem near_power : Near power InRange 0 where
  good w hw := by
    obtain ⟨h1, h2⟩ := hw
    obtain ⟨r, rfl⟩ : ∃ r : ℝ, w = r := by
      refine (real_or_endless w).resolve_right fun he => ?_
      rw [lit_low] at h1
      rcases he with rfl | rfl
      · exact not_top_lt h2
      · exact absurd (le_bot_iff.mp h1) (EReal.coe_ne_bot _)
    exact ⟨r, rfl, power_of_max _ r (max_eq_left h1)⟩
  low w _ := by
    refine ⟨_, power_of_max w (max w 58720256) (by rw [lit_low, ← EReal.coe_strictMono.monotone.map_max]), pw_pos _, ?_⟩
    rw [add_zero, one_mul]
    exact pw_mono (div_le_div_of_nonneg_right (le_max_left _ _) (by norm_num))
  bot := ⟨_, power_of_max ⊥ 58720256 (by rw [lit_low, max_eq_right bot_le]), pw_pos _⟩

end Cert.Shiftmax.Exact

end
-- ==== Proof.Exact.Claim.lean ====
/- The value claim: without its rounding the idealized kernel, under the second precondition, and the reference return the same array. -/
module

public import proofs.«01_k».proof.Defs
public import proofs.«01_k».proof.Proof.Exact.Result
public import proofs.«01_k».proof.Proof.Value.Equal
public import proofs.«01_k».proof.Proof.Exact.Power

@[expose] public section

set_option maxRecDepth 16384

noncomputable section

namespace Cert.Shiftmax.Exact

open Idealize.ShloMosaic Idealize.ShloMosaic.TcCoe Idealize.SL.Sem

/-- The kernel's result depends on the input and the scale alone. -/
theorem returned_eq (m : (ℓ : Loc Cert.Kernel2Ideal.nD Cert.Kernel2Ideal.τ Cert.Kernel2Ideal.sig) → Buf (Elt Ideal) ℓ) (c : Dev Cert.Kernel2Ideal.nD) :
    returned m c = outK power (X m c) (S m c) := by
  funext i
  unfold returned outK factor tot pk top
  rfl

/-- Where the precondition holds, that is the reference's result. -/
theorem returned_same (m : (ℓ : Loc Cert.Kernel2Ideal.nD Cert.Kernel2Ideal.τ Cert.Kernel2Ideal.sig) → Buf (Elt Ideal) ℓ)
    (h : Cert.Pre_Kernel2Ideal_in_range_or_flushed m) (c : Dev Cert.Kernel2Ideal.nD) :
    outV (X m c) (m ((c.tc : Thread Cert.Kernel2Ideal.nD Cert.Kernel2Ideal.τ).loc Cert.Kernel2Ideal.main_arg1)) = returned m c := by
  rw [returned_eq]
  funext i
  rw [out_eq]
  exact (out_same power InRange 0 1073741824 near_power le_rfl (by norm_num) (X m c) (S m c)
    (lit_2p30 ▸ pre_facts _ _ (h c)) i).symm

/-- The value claim. -/
theorem algebraic : Cert.algebraic_Kernel2Ideal_ReferenceIdeal_pre_in_range_or_flushed := fun m g m' g' hpre hargs => by
  refine ⟨fun c => returned m c, run_kernel m g, (θ_run Cert.ReferenceIdeal.defs _ _).mono (fun _ h c => ⟨(h c).1.trans ?_, (h c).2⟩)
    (Cert.ReferenceIdeal.Value.run (F := Ideal) m' g')⟩
  rw [res_eq, (hargs c).1, (hargs c).2]
  exact returned_same m hpre c

end Cert.Shiftmax.Exact

end
-- ==== Proof.lean ====
/- The proof of the certificate: the frames and the named constant (Proof/Frames.lean), the value of the kernel as it stands
   (Proof/Value/Claim.lean) and the value of the kernel without its rounding (Proof/Exact/Claim.lean). -/
module

public import proofs.«01_k».proof.Defs
public import proofs.«01_k».proof.Proof.Frames
public import proofs.«01_k».proof.Proof.Value.Claim
public import proofs.«01_k».proof.Proof.Exact.Claim

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Shiftmax.preFacts, Cert.Shiftmax.rangeFacts,
    Cert.Shiftmax.frame_kernel, Cert.Shiftmax.frame_ideal, Cert.Shiftmax.frame_ideal_pre, Cert.Shiftmax.frame_reference,
    Cert.Shiftmax.frame_reference_pre, Cert.Shiftmax.frame_reference_pre2, Cert.Shiftmax.frame_kernel2,
    Cert.Shiftmax.frame_ideal2, Cert.Shiftmax.frame_ideal2_pre, Cert.Shiftmax.preserves, Cert.Shiftmax.algebraic,
    Cert.Shiftmax.preserves2, Cert.Shiftmax.Exact.algebraic⟩

end Cert.Proof

end
